-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096 : Shape := ⟨1, ![4096]⟩
abbrev S64x128x128 : Shape := ⟨3, ![64, 128, 128]⟩
abbrev S64x128 : Shape := ⟨2, ![64, 128]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S64x128x128 .f32) (main_arg2 : FVec F S64x128 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 64#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096 : Shape := ⟨1, ![4096]⟩
abbrev S64x128x128 : Shape := ⟨3, ![64, 128, 128]⟩
abbrev S64x128 : Shape := ⟨2, ![64, 128]⟩
abbrev S128x128 : Shape := ⟨2, ![128, 128]⟩
abbrev S1x128x128 : Shape := ⟨3, ![1, 128, 128]⟩
abbrev S64x128x1 : Shape := ⟨3, ![64, 128, 1]⟩
abbrev S64 : Shape := ⟨1, ![64]⟩
abbrev S64x1 : Shape := ⟨2, ![64, 1]⟩
abbrev S4096x128x128 : Shape := ⟨3, ![4096, 128, 128]⟩
abbrev S128 : Shape := ⟨1, ![128]⟩
abbrev S_ : Shape := ⟨0, ![]⟩
abbrev S1 : Shape := ⟨1, ![1]⟩

abbrev nBuf : Table → Nat
  | .hbm => 5
  | .local .tc .vmem => 3
  | .shared => 1
  | .local .scScalar .smem => 1
  | _ => 0

abbrev bufTy : (tb : Table) → Fin (nBuf tb) → BufTy
  | .hbm, ⟨0, _⟩ => ⟨S4096, .i32⟩
  | .hbm, ⟨1, _⟩ => ⟨S64x128x128, .f32⟩
  | .hbm, ⟨2, _⟩ => ⟨S64x128, .f32⟩
  | .hbm, ⟨3, _⟩ => ⟨S64x128x128, .f32⟩
  | .hbm, ⟨4, _⟩ => ⟨S4096x128x128, .f32⟩
  | .local .tc .vmem, ⟨0, _⟩ => ⟨S64x128x128, .f32⟩
  | .local .tc .vmem, ⟨1, _⟩ => ⟨S64x128, .f32⟩
  | .local .tc .vmem, ⟨2, _⟩ => ⟨S64x128x128, .f32⟩
  | .shared, ⟨0, _⟩ => ⟨S64x128x128, .f32⟩
  | .local .scScalar .smem, ⟨0, _⟩ => ⟨S128, .i32⟩
  | _, _ => ⟨S4096, .i32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => true
  | ⟨1, _⟩ => true
  | ⟨2, _⟩ => true
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v0_scs : Ref sig .scScalar := ⟨.hbm, 3, rfl⟩
abbrev main_arg0_scs : Ref sig .scScalar := ⟨.hbm, 0, rfl⟩
abbrev main_v1_scs : Ref sig .scScalar := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch1 : Ref sig .scScalar := ⟨.shared, 0, rfl⟩
abbrev cc1_scratch0 : Ref sig .scScalar := ⟨.smem, 0, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S64x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![2], ![false]⟩

@[reducible] def k1_t1_loop : Scf.Loop 32 :=
  let c0_i32_0 : BitVec 32 := 0#32
  let c16_i32 : BitVec 32 := 16#32
  let v1 : BitVec 32 := Scalar.addi c0_i32_0 c16_i32
  let c1_i32 : BitVec 32 := 1#32
  ⟨c0_i32_0, v1, c1_i32⟩
def k1_off1 (i : grid1.Coords) (k1_t1 : Fin k1_t1_loop.trips) : Fin 1 → Nat :=
  let arg0 : BitVec 32 := BitVec.ofNat 32 (i 0).val
  let c2048_i32 : BitVec 32 := 2048#32
  let v0 : BitVec 32 := Scalar.muli arg0 c2048_i32
  let c0_i32_0 : BitVec 32 := 0#32
  let c1_i32 : BitVec 32 := 1#32
  let arg8 : BitVec 32 := Scf.iv c0_i32_0 c1_i32 k1_t1
  let c128_i32 : BitVec 32 := 128#32
  let v258 : BitVec 32 := Scalar.muli arg8 c128_i32
  let v259 : BitVec 32 := Scalar.addi v0 v258
  ![v259.toNat]
@[reducible] def k1_t2_loop : Scf.Loop 32 :=
  let c0_i32_322 : BitVec 32 := 0#32
  let c128_i32_323 : BitVec 32 := 128#32
  let v260 : BitVec 32 := Scalar.addi c0_i32_322 c128_i32_323
  let c1_i32_324 : BitVec 32 := 1#32
  ⟨c0_i32_322, v260, c1_i32_324⟩
def k1_off2 (k1_t2 : Fin k1_t2_loop.trips) : Fin 1 → Nat :=
  let c0_i32_322 : BitVec 32 := 0#32
  let c1_i32_324 : BitVec 32 := 1#32
  let arg9 : BitVec 32 := Scf.iv c0_i32_322 c1_i32_324 k1_t2
  let v263 : Index := Scalar.indexCast arg9
  ![v263.toNat]
def k1_off3 (i : grid1.Coords) (k1_t1 : Fin k1_t1_loop.trips) (k1_t2 : Fin k1_t2_loop.trips) : Fin 3 → Nat :=
  let arg0 : BitVec 32 := BitVec.ofNat 32 (i 0).val
  let c2048_i32 : BitVec 32 := 2048#32
  let v0 : BitVec 32 := Scalar.muli arg0 c2048_i32
  let c0_i32_0 : BitVec 32 := 0#32
  let c1_i32 : BitVec 32 := 1#32
  let arg8 : BitVec 32 := Scf.iv c0_i32_0 c1_i32 k1_t1
  let c128_i32_326 : BitVec 32 := 128#32
  let v261 : BitVec 32 := Scalar.muli arg8 c128_i32_326
  let c0_i32_322 : BitVec 32 := 0#32
  let c1_i32_324 : BitVec 32 := 1#32
  let arg9 : BitVec 32 := Scf.iv c0_i32_322 c1_i32_324 k1_t2
  let v262 : BitVec 32 := Scalar.addi v261 arg9
  let v265 : BitVec 32 := Scalar.addi v0 v262
  let c0_i32_327 : BitVec 32 := 0#32
  let c0_i32_328 : BitVec 32 := 0#32
  ![v265.toNat, 0, 0]
def k1_off4 (v264 : BitVec 32) : Fin 3 → Nat :=
  let c0_i32_329 : BitVec 32 := 0#32
  let c0_i32_330 : BitVec 32 := 0#32
  ![v264.toNat, 0, 0]

def k1_chk1 (v264 : BitVec 32) : Prop :=
  (∀ a, (k1_off4 v264) a + S1x128x128.size a ≤ S64x128x128.size a)
theorem k1_off4_inb : ∀ (v264 : BitVec 32) (k1_hw1 : k1_chk1 v264), ∀ a, (k1_off4 v264) a + S1x128x128.size a ≤ S64x128x128.size a := fun v264 k1_hw1 => k1_hw1

def k1_cond1 (k1_t1 : Fin k1_t1_loop.trips) (k1_t2 : Fin k1_t2_loop.trips) : BitVec 1 :=
  let c0_i32_0 : BitVec 32 := 0#32
  let c1_i32 : BitVec 32 := 1#32
  let arg8 : BitVec 32 := Scf.iv c0_i32_0 c1_i32 k1_t1
  let c128_i32_326 : BitVec 32 := 128#32
  let v261 : BitVec 32 := Scalar.muli arg8 c128_i32_326
  let c0_i32_322 : BitVec 32 := 0#32
  let c1_i32_324 : BitVec 32 := 1#32
  let arg9 : BitVec 32 := Scf.iv c0_i32_322 c1_i32_324 k1_t2
  let v262 : BitVec 32 := Scalar.addi v261 arg9
  let c64_i32 : BitVec 32 := 64#32
  let v270 : BitVec 1 := Scalar.cmpi .sge v262 c64_i32
  let v271 : BitVec 32 := Scalar.extui v270
  let c0_i32_331 : BitVec 32 := 0#32
  let v272 : BitVec 1 := Scalar.cmpi .ne v271 c0_i32_331
  v272

def k1_off5 (i : grid1.Coords) : Fin 3 → Nat :=
  let arg0 : BitVec 32 := BitVec.ofNat 32 (i 0).val
  let c2048_i32 : BitVec 32 := 2048#32
  let v0 : BitVec 32 := Scalar.muli arg0 c2048_i32
  let c0_i32_333 : BitVec 32 := 0#32
  let c0_i32_334 : BitVec 32 := 0#32
  ![v0.toNat, 0, 0]
def k1_off6 (i : grid1.Coords) : Fin 3 → Nat :=
  let arg0 : BitVec 32 := BitVec.ofNat 32 (i 0).val
  let c2048_i32 : BitVec 32 := 2048#32
  let v0 : BitVec 32 := Scalar.muli arg0 c2048_i32
  let c0_i32_3 : BitVec 32 := 0#32
  let c0_i32_4 : BitVec 32 := 0#32
  ![v0.toNat, 0, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S4096 : Shape := ⟨1, ![4096]⟩
abbrev S64x128x128 : Shape := ⟨3, ![64, 128, 128]⟩
abbrev S64x128 : Shape := ⟨2, ![64, 128]⟩
abbrev S128x128 : Shape := ⟨2, ![128, 128]⟩
abbrev S_ : Shape := ⟨0, ![]⟩
abbrev S1x128x128 : Shape := ⟨3, ![1, 128, 128]⟩
abbrev S64x128x1 : Shape := ⟨3, ![64, 128, 1]⟩
abbrev S4096x1 : Shape := ⟨2, ![4096, 1]⟩
abbrev S1 : Shape := ⟨1, ![1]⟩
abbrev S1x1 : Shape := ⟨2, ![1, 1]⟩
abbrev S4096x128x128 : Shape := ⟨3, ![4096, 128, 128]⟩
abbrev S64 : Shape := ⟨1, ![64]⟩
abbrev S64x1 : Shape := ⟨2, ![64, 1]⟩
abbrev S4096x128 : Shape := ⟨2, ![4096, 128]⟩
abbrev S4096x128x1 : Shape := ⟨3, ![4096, 128, 1]⟩

abbrev nBuf : Space → Nat
  | .hbm => 102
  | .vmem => 0
  | .smem => 0
  | _ => 0

abbrev bufTy : (tb : Table) → Fin (tcTables nBuf tb) → BufTy
  | .hbm, ⟨0, _⟩ => ⟨S4096, .i32⟩
  | .hbm, ⟨1, _⟩ => ⟨S64x128x128, .f32⟩
  | .hbm, ⟨2, _⟩ => ⟨S64x128, .f32⟩
  | .hbm, ⟨3, _⟩ => ⟨S128x128, .i32⟩
  | .hbm, ⟨4, _⟩ => ⟨S128x128, .i32⟩
  | .hbm, ⟨5, _⟩ => ⟨S_, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .f32⟩
  | .hbm, ⟨10, _⟩ => ⟨S_, .f32⟩
  | .hbm, ⟨11, _⟩ => ⟨S128x128, .f32⟩
  | .hbm, ⟨12, _⟩ => ⟨S128x128, .f32⟩
  | .hbm, ⟨13, _⟩ => ⟨S1x128x128, .f32⟩
  | .hbm, ⟨14, _⟩ => ⟨S64x128x128, .f32⟩
  | .hbm, ⟨15, _⟩ => ⟨S64x128x128, .f32⟩
  | .hbm, ⟨16, _⟩ => ⟨S64x128x128, .f32⟩
  | .hbm, ⟨17, _⟩ => ⟨S_, .f32⟩
  | .hbm, ⟨18, _⟩ => ⟨S64x128, .f32⟩
  | .hbm, ⟨19, _⟩ => ⟨S64x128x1, .f32⟩
  | .hbm, ⟨20, _⟩ => ⟨S_, .f32⟩
  | .hbm, ⟨21, _⟩ => ⟨S64x128x1, .f32⟩
  | .hbm, ⟨22, _⟩ => ⟨S64x128x1, .f32⟩
  | .hbm, ⟨23, _⟩ => ⟨S64x128x128, .f32⟩
  | .hbm, ⟨24, _⟩ => ⟨S64x128x128, .f32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S1, .i32⟩
  | .hbm, ⟨34, _⟩ => ⟨S_, .i32⟩
  | .hbm, ⟨35, _⟩ => ⟨S4096x1, .i32⟩
  | .hbm, ⟨36, _⟩ => ⟨S4096x1, .i1⟩
  | .hbm, ⟨37, _⟩ => ⟨S1x1, .i32⟩
  | .hbm, ⟨38, _⟩ => ⟨S4096x1, .i32⟩
  | .hbm, ⟨39, _⟩ => ⟨S4096x1, .i1⟩
  | .hbm, ⟨40, _⟩ => ⟨S4096x1, .i1⟩
  | .hbm, ⟨41, _⟩ => ⟨S_, .i1⟩
  | .hbm, ⟨42, _⟩ => ⟨S4096, .i1⟩
  | .hbm, ⟨43, _⟩ => ⟨S4096x128x128, .f32⟩
  | .hbm, ⟨44, _⟩ => ⟨S4096x128x128, .i1⟩
  | .hbm, ⟨45, _⟩ => ⟨S_, .f32⟩
  | .hbm, ⟨46, _⟩ => ⟨S4096x128x128, .f32⟩
  | .hbm, ⟨47, _⟩ => ⟨S4096x128x128, .f32⟩
  | .hbm, ⟨48, _⟩ => ⟨S_, .f32⟩
  | .hbm, ⟨49, _⟩ => ⟨S64x128, .f32⟩
  | .hbm, ⟨50, _⟩ => ⟨S64x128, .f32⟩
  | .hbm, ⟨51, _⟩ => ⟨S64x128, .f32⟩
  | .hbm, ⟨52, _⟩ => ⟨S64x128, .f32⟩
  | .hbm, ⟨53, _⟩ => ⟨S64x128, .i1⟩
  | .hbm, ⟨54, _⟩ => ⟨S64x128, .f32⟩
  | .hbm, ⟨55, _⟩ => ⟨S64x128, .f32⟩
  | .hbm, ⟨56, _⟩ => ⟨S64x128, .f32⟩
  | .hbm, ⟨57, _⟩ => ⟨S64x128, .f32⟩
  | .hbm, ⟨58, _⟩ => ⟨S64x128, .f32⟩
  | .hbm, ⟨59, _⟩ => ⟨S64x128, .f32⟩
  | .hbm, ⟨60, _⟩ => ⟨S64x128, .f32⟩
  | .hbm, ⟨61, _⟩ => ⟨S64x128, .f32⟩
  | .hbm, ⟨62, _⟩ => ⟨S_, .f32⟩
  | .hbm, ⟨63, _⟩ => ⟨S64x128, .f32⟩
  | .hbm, ⟨64, _⟩ => ⟨S64x128, .f32⟩
  | .hbm, ⟨65, _⟩ => ⟨S_, .f32⟩
  | .hbm, ⟨66, _⟩ => ⟨S64, .f32⟩
  | .hbm, ⟨67, _⟩ => ⟨S64x1, .f32⟩
  | .hbm, ⟨68, _⟩ => ⟨S_, .f32⟩
  | .hbm, ⟨69, _⟩ => ⟨S64x1, .f32⟩
  | .hbm, ⟨70, _⟩ => ⟨S64x1, .f32⟩
  | .hbm, ⟨71, _⟩ => ⟨S_, .f32⟩
  | .hbm, ⟨72, _⟩ => ⟨S64x1, .f32⟩
  | .hbm, ⟨73, _⟩ => ⟨S64x1, .f32⟩
  | .hbm, ⟨74, _⟩ => ⟨S64x128, .f32⟩
  | .hbm, ⟨75, _⟩ => ⟨S64x128, .f32⟩
  | .hbm, ⟨76, _⟩ => ⟨S_, .i32⟩
  | .hbm, ⟨77, _⟩ => ⟨S4096, .i32⟩
  | .hbm, ⟨78, _⟩ => ⟨S4096, .i1⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S4096, .i32⟩
  | .hbm, ⟨83, _⟩ => ⟨S4096x1, .i32⟩
  | .hbm, ⟨84, _⟩ => ⟨S1, .i32⟩
  | .hbm, ⟨85, _⟩ => ⟨S_, .i32⟩
  | .hbm, ⟨86, _⟩ => ⟨S4096x1, .i32⟩
  | .hbm, ⟨87, _⟩ => ⟨S4096x1, .i1⟩
  | .hbm, ⟨88, _⟩ => ⟨S1x1, .i32⟩
  | .hbm, ⟨89, _⟩ => ⟨S4096x1, .i32⟩
  | .hbm, ⟨90, _⟩ => ⟨S4096x1, .i1⟩
  | .hbm, ⟨91, _⟩ => ⟨S4096x1, .i1⟩
  | .hbm, ⟨92, _⟩ => ⟨S_, .i1⟩
  | .hbm, ⟨93, _⟩ => ⟨S4096, .i1⟩
  | .hbm, ⟨94, _⟩ => ⟨S4096x128, .f32⟩
  | .hbm, ⟨95, _⟩ => ⟨S4096x128, .i1⟩
  | .hbm, ⟨96, _⟩ => ⟨S_, .f32⟩
  | .hbm, ⟨97, _⟩ => ⟨S4096x128, .f32⟩
  | .hbm, ⟨98, _⟩ => ⟨S4096x128, .f32⟩
  | .hbm, ⟨99, _⟩ => ⟨S4096x128x1, .f32⟩
  | .hbm, ⟨100, _⟩ => ⟨S4096x128x128, .f32⟩
  | .hbm, ⟨101, _⟩ => ⟨S4096x128x128, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v18 : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_v19 : Ref sig .tc := ⟨.hbm, 61, rfl⟩
abbrev main_cst_2 : Ref sig .tc := ⟨.hbm, 62, rfl⟩
abbrev main_v20 : Ref sig .tc := ⟨.hbm, 63, rfl⟩
abbrev main_v21 : Ref sig .tc := ⟨.hbm, 64, rfl⟩
abbrev main_cst_3 : Ref sig .tc := ⟨.hbm, 65, rfl⟩
abbrev main_v22 : Ref sig .tc := ⟨.hbm, 66, rfl⟩
abbrev main_v23 : Ref sig .tc := ⟨.hbm, 67, rfl⟩
abbrev main_cst_4 : Ref sig .tc := ⟨.hbm, 68, rfl⟩
abbrev main_v24 : Ref sig .tc := ⟨.hbm, 69, rfl⟩
abbrev main_v25 : Ref sig .tc := ⟨.hbm, 70, rfl⟩
abbrev main_cst_5 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_call2_cst : Ref sig .tc := ⟨.hbm, 96, rfl⟩
abbrev main_call2_v15 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩

abbrev nD : Nat := 1
abbrev τ : Topo := Topo.v7x

variable {F : FTy → Type} [FloatOps F]
-- ==== Proof.Setup.lean ====
/-
  What the proofs about `KernelIdeal` share: the program as the launch theorem sees it, the algebra its ghost state lives
  in, the arrays by name, the rows the copies move, and the value the result ends at.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Ring
public import Idealize.ShloMosaic.Lib.Batch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra: the handshakes' rounds, the table region's rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left component. -/
abbrev EH : Emb UH (MT nD τ sig (HIx 1) (Elt F) ℕ UU ℕ) := embL
/-- The table region's rounds: the left of the right component. -/
def EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by unfold EP; infer_instance
/-- The copies' counters. -/
abbrev EC : UEmb Counters (MT nD τ sig (HIx 1) (Elt F) ℕ UU ℕ) := countersEmb (U := UU)

/-! ## The sequencers, their coordinates and the arrays -/

/-- A sequencer's grid coordinates. -/
def coordsC (c : Fin (grid1.bound 0)) : grid1.Coords := fun | 0 => c | ⟨_ + 1, h⟩ => absurd h (Nat.not_lt.2 (Nat.le_add_left _ _))
theorem coordsC_0 (c : Fin (grid1.bound 0)) : (coordsC c) 0 = c := rfl
/-- SparseCore `c`'s sequencer on device `d`. -/
abbrev Sq (d : Dev nD) (c : Fin (grid1.bound 0)) : Thread nD τ := S d (c.castLE hcore1)

theorem core_lt (c : Fin (grid1.bound 0)) : c.val < 2 := c.isLt

/-- The first row of SparseCore `c`'s half of the result, and its row number `t`. -/
abbrev rowOf (c : Fin (grid1.bound 0)) (t : Fin 2048) : Fin 4096 := ⟨2048 * c.val + t.val, by have := core_lt c; have := t.isLt; omega⟩

abbrev tbLoc (d : Dev nD) : Loc nD τ sig := (SparseCore.T d).loc main_v0
abbrev phLoc (d : Dev nD) : Loc nD τ sig := (SparseCore.T d).loc main_arg0
abbrev outLoc (d : Dev nD) : Loc nD τ sig := (SparseCore.T d).loc main_v1
abbrev sLoc (d : Dev nD) : Loc nD τ sig := (SparseCore.T d).loc main_arg1
abbrev gLoc (d : Dev nD) : Loc nD τ sig := (SparseCore.T d).loc main_arg2
/-- The sequencer's index buffer and its shared copy of the table. -/
abbrev ixLoc (d : Dev nD) (c : Fin (grid1.bound 0)) : Loc nD τ sig := (Sq d c).loc cc1_scratch0
abbrev spLoc (d : Dev nD) (c : Fin (grid1.bound 0)) : Loc nD τ sig := (Sq d c).loc cc1_scratch1

/-! ## The rows the copies move -/

theorem inb_out (b : Fin 4096) : ∀ a, (![b.val, 0, 0] : Fin 3 → Nat) a + S1x128x128.size a ≤ S4096x128x128.size a := by
  have := b.isLt; intro a; fin_cases a <;> simp <;> omega

/-- Row `b` of the result, spelt as the body spells it. -/
def outRow (b : Fin 4096) : Memref sig .scScalar .hbm S128x128 .f32 :=
  ((Memref.whole main_v1_scs).slice (Rect.unit (s := S4096x128x128) ![b.val, 0, 0] S1x128x128.size (inb_out b)) (fun _ => rfl)).squeeze S128x128 squeezes_S1x128x128_S128x128

/-- Row `w` of the shared copy of the table, spelt as the body spells it. -/
def sptRow (w : BitVec 32) (h : k1_chk1 w) : Memref sig .scScalar .shared S128x128 .f32 :=
  ((Memref.whole cc1_scratch1).slice (Rect.unit (s := S64x128x128) (k1_off4 w) S1x128x128.size (k1_off4_inb w h)) (fun _ => rfl)).squeeze S128x128 squeezes_S1x128x128_S128x128

/-- The elements of row `b` of the result. -/
abbrev outSet (b : Fin 4096) : Finset S4096x128x128.Idx := (Rect.unit (s := S4096x128x128) ![b.val, 0, 0] S1x128x128.size (inb_out b)).set

theorem outRow_set (b : Fin 4096) : (outRow b).view.set = outSet b := by
  simp only [outRow, Memref.view_squeeze, View.set_reshape]; exact View.set_slice_whole _ _

theorem outSet_disjoint (b b' : Fin 4096) (h : b ≠ b') : Disjoint (outSet b) (outSet b') :=
  Ring.lead_disjoint (s := S4096x128x128) (0 : Fin 3) 1 (fun b : Fin 4096 => (![b.val, 0, 0] : Fin 3 → Nat)) S1x128x128.size inb_out (fun b => by simp) rfl b b' h
theorem outSet_cover : Finset.univ.biUnion outSet = Finset.univ :=
  Ring.lead_cover (s := S4096x128x128) (0 : Fin 3) 1 (fun b : Fin 4096 => (![b.val, 0, 0] : Fin 3 → Nat)) S1x128x128.size inb_out (fun b => by simp)
    (fun b a ha => by fin_cases a <;> first | exact absurd rfl ha | rfl) rfl (fun a ha => by fin_cases a <;> first | exact absurd rfl ha | rfl) rfl

/-- The rows of SparseCore `c`'s half. -/
abbrev halfSet (c : Fin (grid1.bound 0)) : Finset S4096x128x128.Idx := Finset.univ.biUnion fun t : Fin 2048 => outSet (rowOf c t)

theorem rowOf_ne (c : Fin (grid1.bound 0)) {t t' : Fin 2048} (h : t ≠ t') : rowOf c t ≠ rowOf c t' := by
  intro e; apply h; have := congrArg Fin.val e; simp only [rowOf] at this; exact Fin.ext (by omega)

/-- A word in range names a row of the table. -/
theorem chk_of_lt {w : BitVec 32} (h : w.toNat < 64) : k1_chk1 w := by
  intro a; fin_cases a <;> simp [k1_off4] <;> omega
theorem lt_of_chk {w : BitVec 32} (h : k1_chk1 w) : w.toNat < 64 := by
  have := h 0; simp [k1_off4] at this; omega

/-! ## The value the result ends at -/

/-- Row `b` of the result is row `phases[b]` of the table. -/
def gathered (tb : S64x128x128.Idx → Elt F .f32) (ph : S4096.Idx → Elt F .i32) : S4096x128x128.Idx → Elt F .f32 :=
  fun i => tb (fun | 0 => (⟨(show BitVec 32 from ph (fun | 0 => (i 0 : Fin 4096))).toNat % 64, Nat.mod_lt _ (by decide)⟩ : Fin 64) | 1 => (i 1 : Fin 128) | 2 => (i 2 : Fin 128))

end Cert.Proof.Gather

end
-- ==== Proof.Rows.lean ====
/-
  One row's copy, by value: the result's row `b`, rewritten with the row of the table copy that the index word names, holds
  what `gathered` says.
-/
module

public import proofs.«01_k».proof.Proof.Setup

@[expose] public section

noncomputable section

namespace Cert.Proof.Gather

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The place inside a row that a row's index addresses. -/
def inRow (j : S128x128.Idx) : S1x128x128.Idx := Shape.reshapeEquiv (squeezes_S1x128x128_S128x128).numel_eq j

/-- The elements of row `w` of the shared table. -/
abbrev srcSet (w : BitVec 32) (h : k1_chk1 w) : Finset S64x128x128.Idx :=
  (Rect.unit (s := S64x128x128) (k1_off4 w) S1x128x128.size (k1_off4_inb w h)).set
theorem sptRow_set (w : BitVec 32) (h : k1_chk1 w) : (sptRow w h).view.set = srcSet w h := by
  simp only [sptRow, Memref.view_squeeze, View.set_reshape]; exact View.set_slice_whole _ _

theorem outRow_emb (b : Fin 4096) (j : S128x128.Idx) (a : Fin 3) :
    ((outRow b).view.emb j a).val = (![b.val, 0, 0] : Fin 3 → Nat) a + (inRow j a).val := by
  show (![b.val, 0, 0] : Fin 3 → Nat) a + 1 * (inRow j a).val = _
  rw [Nat.one_mul]

theorem sptRow_emb (w : BitVec 32) (h : k1_chk1 w) (j : S128x128.Idx) (a : Fin 3) :
    ((sptRow w h).view.emb j a).val = (k1_off4 w) a + (inRow j a).val := by
  show (k1_off4 w) a + 1 * (inRow j a).val = _
  rw [Nat.one_mul]

/-- The index word of row `b`. -/
def wordAt (ph : S4096.Idx → Elt F .i32) (b : Fin 4096) : BitVec 32 := ph (fun | 0 => b)

/-- The row copied is the row gathered. -/
theorem row_value (tb : S64x128x128.Idx → Elt F .f32) (ph : S4096.Idx → Elt F .i32) (fo : S4096x128x128.Idx → Elt F .f32)
    (b : Fin 4096) (w : BitVec 32) (h : k1_chk1 w) (hw : wordAt ph b = w) :
    ∀ i ∈ (outRow b).view.set,
      (outRow b).view.write (Elt F) fo ((sptRow w h).view.read (Elt F) tb) Finset.univ i = gathered tb ph i := by
  intro i hi
  obtain ⟨j, -, rfl⟩ := Finset.mem_map.mp hi
  refine (View.write_emb_of_mem (Val := Elt F) (v := (outRow b).view) fo _ (Finset.mem_univ j)).trans ?_
  have e0 : ((outRow b).view.emb j (0 : Fin 3)) = b := by
    apply Fin.ext; rw [outRow_emb]; have := (inRow j 0).isLt; simp at this ⊢; omega
  have hlt := lt_of_chk h
  change tb ((sptRow w h).view.emb j) = tb _
  congr 1
  funext a
  apply Fin.ext
  refine (sptRow_emb w h j a).trans ?_
  have e2 : ph (fun | 0 => ((outRow b).view.emb j (0 : Fin 3) : Fin 4096)) = w := by rw [← hw, wordAt]; congr 1; funext x; fin_cases x; exact e0
  have h0 : (inRow j (0 : Fin 3)).val < 1 := (inRow j (0 : Fin 3)).isLt
  fin_cases a
  · change w.toNat + (inRow j (0 : Fin 3)).val = (show BitVec 32 from ph _).toNat % 64
    refine Eq.trans ?_ (congrArg (fun w : BitVec 32 => w.toNat % 64) e2).symm
    show _ = w.toNat % 64
    rw [Nat.mod_eq_of_lt hlt]; omega
  · have := outRow_emb b j (1 : Fin 3)
    exact this.symm
  · have := outRow_emb b j (2 : Fin 3)
    exact this.symm

end Cert.Proof.Gather

end
-- ==== Proof.Drain.lean ====
/-
  The copies outstanding on the sequencer's row semaphore, as one counted batch of 2048 rows, and the 64 waits that drain
  it after the loops.
-/
module

public import proofs.«01_k».proof.Proof.Rows

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

-- the kernel's memrefs, spelt as the body table passes them
local notation "tbW" => (Memref.whole Cert.KernelIdeal.main_v0_scs : Memref Cert.KernelIdeal.sig Kind.scScalar Space.hbm Cert.KernelIdeal.S64x128x128 EltTy.f32)
local notation "phW" => (Memref.whole Cert.KernelIdeal.main_arg0_scs : Memref Cert.KernelIdeal.sig Kind.scScalar Space.hbm Cert.KernelIdeal.S4096 EltTy.i32)
local notation "outW" => (Memref.whole Cert.KernelIdeal.main_v1_scs : Memref Cert.KernelIdeal.sig Kind.scScalar Space.hbm Cert.KernelIdeal.S4096x128x128 EltTy.f32)
local notation "ixW" => (Memref.whole Cert.KernelIdeal.cc1_scratch0 : Memref Cert.KernelIdeal.sig Kind.scScalar Space.smem Cert.KernelIdeal.S128 EltTy.i32)
local notation "spW" => (Memref.whole Cert.KernelIdeal.cc1_scratch1 : Memref Cert.KernelIdeal.sig Kind.scScalar Space.shared Cert.KernelIdeal.S64x128x128 EltTy.f32)

/-- The semaphore the row copies complete on. -/
abbrev rowSem : SemLoc sig := .dma cc1_scratch3.sem

/-- The units one row's copy credits. -/
def rowUnits : ℕ := (outRow 0).view.dmaCredit
theorem rowUnits_pos : 0 < rowUnits := View.dmaCredit_pos _ (by decide)
theorem credit_row (b : Fin 4096) : (outRow b).view.dmaCredit = rowUnits := rfl

section Batch

variable (d : Dev nD) (c : Fin (grid1.bound 0))
variable (tb : S64x128x128.Idx → Elt F .f32) (ph : S4096.Idx → Elt F .i32) (hph : ∀ b : Fin 4096, k1_chk1 (wordAt ph b))

/-- The index word of row `t` of core `c`'s half. -/
abbrev word (t : Fin 2048) : BitVec 32 := wordAt ph (rowOf c t)
/-- The row of the shared table that the word names. -/
abbrev srcRow (t : Fin 2048) : Memref sig .scScalar .shared S128x128 .f32 := sptRow (word c ph t) (hph (rowOf c t))

/-- Row `t` of the half, at its own elements. -/
abbrev outPt (t : Fin 2048) (f : S4096x128x128.Idx → Elt F .f32) : sProp 𝕄 :=
  outLoc d ↦[outSet (rowOf c t)]{fullShare} f
/-- Copy `t`'s share of the row it reads. -/
abbrev srcPt (t : Fin 2048) : sProp 𝕄 :=
  spLoc d c ↦[srcSet (word c ph t) (hph (rowOf c t))]{Transfers.shareTokN fullShare t.val} tb

/-- What copy `t` delivers: the row gathered, and its read share back. -/
def rowDone (t : Fin 2048) : sProp 𝕄 := iprop(outPt d c t (gathered tb ph) ∗ srcPt d c tb ph hph t)
instance (t : Fin 2048) : BI.Storable (upEmb : UEmb _ 𝕄) (rowDone d c tb ph hph t) := by unfold rowDone; infer_instance

/-- The batch with `k` copies issued and `u` units waited for. -/
def Rows (k u : ℕ) : sProp 𝕄 := Transfers.Batch EC (Sq d c) rowSem (none : HIx 1) rowUnits (rowDone d c tb ph hph) k u

/-- The batch, the waits' evidence and what the sequencer owes. -/
def St (O : CellTallies nD τ sig (HIx 1)) (k u : ℕ) : sProp 𝕄 :=
  iprop(Transfers.MayWaits (Sq d c) (none : HIx 1) O ∗ Rows d c tb ph hph k u ∗ ∃ W', owes (Sq d c) O W')

/-- One wait for a row's units, whichever row it names. -/
theorem wait_row (O : CellTallies nD τ sig (HIx 1)) {k u : ℕ} (hu : u + rowUnits ≤ rowUnits * k)
    (srcw : Memref sig .scScalar .shared S128x128 .f32) (dstw : Memref sig .scScalar .hbm S128x128 .f32)
    {hsrc : srcw.view.WordExact} {hdst : dstw.view.WordExact} (hc : dstw.view.dmaCredit = rowUnits)
    {α : Type} {kk : PUnit → Prog (TpuEff nD τ sig (Elt F) Λ₀ (Sq d c).2) α} {Q : α → sProp 𝕄} :
    St d c tb ph hph O k u ⊢
      iprop((St d c tb ph hph O k (u + rowUnits) -∗ wp frame (wpE (defs₀ (F := F)) 𝒱₀ (Sq d c) none) Set.univ (kk ⟨⟩) Q)
        -∗ wp frame (wpE (defs₀ (F := F)) 𝒱₀ (Sq d c) none) Set.univ (.op (.waitDma2 cc1_scratch3.sem srcw dstw hsrc hdst) kk) Q) := by
  unfold St Rows
  iintro ⟨#Hmw, HB, %W', HO⟩ HQ
  ihave HM := (Transfers.MayWaits.elim (.dma cc1_scratch3.sem)) $$ Hmw
  iapply (Transfers.wp_waitBatchMulO EC 𝒱₀ (Sq d c) none (none : HIx 1) 1 (by rw [hc, Nat.one_mul]) (by rw [Nat.one_mul]; exact hu)) $$ [HB HO HM]
  · isplitl [HB]; · iexact HB
    isplitl [HO]; · iexact HO
    iexact HM
  iintro ⟨HB, HO⟩
  iapply HQ
  isplitr; · iexact Hmw
  isplitl [HB]
  · irw [show u + rowUnits = u + 1 * rowUnits by omega]; iexact HB
  iexists _; iexact HO

/-- A wait of the drain: the units of the half's first row. -/
abbrev drainWait : TpuEff nD τ sig (Elt F) Λ₀ (Sq d c).2 PUnit :=
  .waitDma2 cc1_scratch3.sem
    (((spW).slice (Rect.unit (s := S64x128x128) ![0, 0, 0] S1x128x128.size inb_S64x128x128_S1x128x128_0_0_0) (fun _ => rfl)).squeeze S128x128 squeezes_S1x128x128_S128x128)
    (((outW).slice (Rect.unit (s := S4096x128x128) (k1_off6 (coordsC c)) S1x128x128.size (k1_off6_inb (coordsC c))) (fun _ => rfl)).squeeze S128x128 squeezes_S1x128x128_S128x128)
    ((View.wordExact_bits rfl).reshape _ _) ((View.wordExact_bits rfl).reshape _ _)

/-- `n` waits of the drain. -/
def drains : ℕ → Prog (TpuEff nD τ sig (Elt F) Λ₀ (Sq d c).2) PUnit
  | 0 => .ret ⟨⟩
  | n + 1 => .op (drainWait d c) fun _ => drains n

theorem drains_run (O : CellTallies nD τ sig (HIx 1)) (k : ℕ) : ∀ (n u : ℕ), u + n * rowUnits ≤ rowUnits * k →
    (St d c tb ph hph O k u
      ⊢ wp frame (wpE (defs₀ (F := F)) 𝒱₀ (Sq d c) none) Set.univ (drains d c n) fun _ => St d c tb ph hph O k (u + n * rowUnits))
  | 0, u, _ => by
    unfold drains; rw [wp_ret, Nat.zero_mul, Nat.add_zero]; exact fupd_intro
  | n + 1, u, hu => by
    have ih := drains_run O k n (u + rowUnits) (by rw [Nat.add_mul] at hu; omega)
    unfold drains
    iintro H
    iapply (wait_row d c tb ph hph O (by rw [Nat.add_mul] at hu; omega) _ _ ?_) $$ H
    · rfl
    iintro H
    irw [show u + (n + 1) * rowUnits = u + rowUnits + n * rowUnits by rw [Nat.add_mul]; omega]
    iapply ih; iexact H

theorem part2_eq : k1_part2 (F := F) (coordsC c) tbW (Memref.isWhole_whole _) phW (Memref.isWhole_whole _) outW (Memref.isWhole_whole _)
            ixW (Memref.isWhole_whole _) spW (Memref.isWhole_whole _) cc1_scratch2 cc1_scratch3 cc1_scoped0 = drains d c 6 := rfl
theorem part3_eq : k1_part3 (F := F) (coordsC c) tbW (Memref.isWhole_whole _) phW (Memref.isWhole_whole _) outW (Memref.isWhole_whole _)
            ixW (Memref.isWhole_whole _) spW (Memref.isWhole_whole _) cc1_scratch2 cc1_scratch3 cc1_scoped0 = drains d c 6 := rfl

end Batch

end Cert.Proof.Gather

end
-- ==== Proof.Issue.lean ====
/-
  The loops that issue the row copies: each trip reads one index word, starts the copy of the table's row it names, and
  from the 65th copy on waits for one row's units.
-/
module

public import proofs.«01_k».proof.Proof.Drain

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

-- the kernel's memrefs, spelt as the body table passes them
local notation "tbW" => (Memref.whole Cert.KernelIdeal.main_v0_scs : Memref Cert.KernelIdeal.sig Kind.scScalar Space.hbm Cert.KernelIdeal.S64x128x128 EltTy.f32)
local notation "phW" => (Memref.whole Cert.KernelIdeal.main_arg0_scs : Memref Cert.KernelIdeal.sig Kind.scScalar Space.hbm Cert.KernelIdeal.S4096 EltTy.i32)
local notation "outW" => (Memref.whole Cert.KernelIdeal.main_v1_scs : Memref Cert.KernelIdeal.sig Kind.scScalar Space.hbm Cert.KernelIdeal.S4096x128x128 EltTy.f32)
local notation "ixW" => (Memref.whole Cert.KernelIdeal.cc1_scratch0 : Memref Cert.KernelIdeal.sig Kind.scScalar Space.smem Cert.KernelIdeal.S128 EltTy.i32)
local notation "spW" => (Memref.whole Cert.KernelIdeal.cc1_scratch1 : Memref Cert.KernelIdeal.sig Kind.scScalar Space.shared Cert.KernelIdeal.S64x128x128 EltTy.f32)

section Issue

variable (d : Dev nD) (c : Fin (grid1.bound 0))
variable (tb : S64x128x128.Idx → Elt F .f32) (ph : S4096.Idx → Elt F .i32) (hph : ∀ b : Fin 4096, k1_chk1 (wordAt ph b))
variable (fo : S4096x128x128.Idx → Elt F .f32)

theorem trips1 : k1_t1_loop.trips = 16 := by decide +kernel
theorem trips2 : k1_t2_loop.trips = 128 := by decide +kernel
theorem t1_lt (r : Fin k1_t1_loop.trips) : r.val < 16 := trips1 ▸ r.isLt
theorem t2_lt (j : Fin k1_t2_loop.trips) : j.val < 128 := trips2 ▸ j.isLt

/-- The copy that trip `(r, j)` starts. -/
abbrev copyOf (r : Fin k1_t1_loop.trips) (j : Fin k1_t2_loop.trips) : Fin 2048 :=
  ⟨128 * r.val + j.val, by have := t1_lt r; have := t2_lt j; omega⟩

theorem cond_iff : ∀ (r : Fin k1_t1_loop.trips) (j : Fin k1_t2_loop.trips), k1_cond1 r j = 1#1 ↔ 64 ≤ 128 * r.val + j.val := by decide +kernel

/-- A row of the result and a row of the table as the copy's views address them. -/
theorem outPt_eq (t : Fin 2048) (f : S4096x128x128.Idx → Elt F .f32) :
    ((outRow (rowOf c t)).view.loc (Sq d c) ↦[(outRow (rowOf c t)).view.set]{fullShare} f : sProp 𝕄) = outPt d c t f :=
  congrArg (fun I => (outLoc d ↦[I]{fullShare} f : sProp 𝕄)) (outRow_set (rowOf c t))
theorem srcPt_eq (t : Fin 2048) :
    ((srcRow c ph hph t).view.loc (Sq d c) ↦[(srcRow c ph hph t).view.set]{Transfers.shareTokN fullShare t.val} tb : sProp 𝕄) = srcPt d c tb ph hph t :=
  congrArg (fun I => (spLoc d c ↦[I]{Transfers.shareTokN fullShare t.val} tb : sProp 𝕄)) (sptRow_set _ _)

/-- The destination of trip `(r, j)`'s copy, as the body spells it, is its row. -/
theorem dst_eq (r : Fin k1_t1_loop.trips) (j : Fin k1_t2_loop.trips) :
    ((outW).slice (Rect.unit (s := S4096x128x128) (k1_off3 (coordsC c) r j) S1x128x128.size (k1_off3_inb (coordsC c) r j)) (fun _ => rfl)).squeeze S128x128 squeezes_S1x128x128_S128x128
      = outRow (rowOf c (copyOf r j)) :=
  congrArg (fun M : Memref sig .scScalar .hbm S1x128x128 .f32 => M.squeeze S128x128 squeezes_S1x128x128_S128x128)
    (Memref.slice_unit_congr _ ((k1_off3_eq (coordsC c) r j).trans (by rw [coordsC_0, Nat.add_assoc])) _ _ (fun _ => rfl) (fun _ => rfl))

/-- Copy `t` started: its row and its read share go into the batch. -/
theorem issue (t : Fin 2048) {u : ℕ} (hu : u ≤ t.val * rowUnits)
    {hsrc : (srcRow c ph hph t).view.WordExact} {hdst : (outRow (rowOf c t)).view.WordExact}
    {hsem : DmaTarget.Typed (nD := nD) (τ := τ) (p := (Sq d c).2) Space.shared rowSem (.here (outRow (rowOf c t)))}
    {α : Type} {kk : PUnit → Prog (TpuEff nD τ sig (Elt F) Λ₀ (Sq d c).2) α} {Q : α → sProp 𝕄} :
    iprop(srcPt d c tb ph hph t ∗ outPt d c t fo ∗ Rows d c tb ph hph t.val u)
      ⊢ iprop((Rows d c tb ph hph (t.val + 1) u -∗ wp frame (wpE (defs₀ (F := F)) 𝒱₀ (Sq d c) none) Set.univ (kk ⟨⟩) Q)
        -∗ wp frame (wpE (defs₀ (F := F)) 𝒱₀ (Sq d c) none) Set.univ
            (.op (.enqueueDma (srcRow c ph hph t) (.here (outRow (rowOf c t))) rowSem hsrc hdst hsem) kk) Q) := by
  unfold Rows
  rw [← outPt_eq, ← srcPt_eq]
  refine Transfers.wp_dmaBatch EC 𝒱₀ (Sq d c) none (none : HIx 1) rowUnits rfl (Finset.Subset.refl _) t.isLt hu ?_
  unfold rowDone
  refine BI.sep_mono ?_ (Entails.of_eq (srcPt_eq d c tb ph hph t))
  refine Entails.of_eq ((pointsTo_congr ?_).trans (outPt_eq d c t _))
  exact row_value tb ph fo (rowOf c t) (word c ph t) (hph (rowOf c t)) rfl

/-- The guarded wait of trip `(r, j)`: from the 65th copy on, one row's units. -/
theorem guard_run (O : CellTallies nD τ sig (HIx 1)) (r : Fin k1_t1_loop.trips) (j : Fin k1_t2_loop.trips)
    {prog : Prog (TpuEff nD τ sig (Elt F) Λ₀ (Sq d c).2) PUnit}
    (hprog : prog = if k1_cond1 r j = 1#1 then .op (drainWait d c) fun _ => .ret ⟨⟩ else .ret ⟨⟩) :
    St d c tb ph hph O ((copyOf r j).val + 1) (((copyOf r j).val - 64) * rowUnits)
      ⊢ wp frame (wpE (defs₀ (F := F)) 𝒱₀ (Sq d c) none) Set.univ prog
          fun _ => St d c tb ph hph O ((copyOf r j).val + 1) (((copyOf r j).val + 1 - 64) * rowUnits) := by
  subst hprog
  have hiff := cond_iff r j
  by_cases hc : k1_cond1 r j = 1#1
  · rw [if_pos hc]
    have hge : 64 ≤ (copyOf r j).val := hiff.mp hc
    have e : ((copyOf r j).val - 64) * rowUnits + rowUnits = ((copyOf r j).val + 1 - 64) * rowUnits := by
      rw [show (copyOf r j).val + 1 - 64 = (copyOf r j).val - 64 + 1 by omega, Nat.add_mul, Nat.one_mul]
    iintro H
    iapply (wait_row d c tb ph hph O ?_ _ _ ?_) $$ H
    · rw [e, Nat.mul_comm]; exact Nat.mul_le_mul_left _ (by omega)
    · rfl
    iintro H
    irw [← e, wp_ret]
    imodintro; iexact H
  · rw [if_neg hc]
    have hlt : (copyOf r j).val < 64 := by
      by_contra h; exact hc (hiff.mpr (by simpa using h))
    rw [wp_ret, show (copyOf r j).val + 1 - 64 = (copyOf r j).val - 64 by omega]
    exact fupd_intro

/-- The rows not yet copied, and the read shares not yet used, from copy `k` on. -/
def outRest (k : ℕ) : sProp 𝕄 := bigSep (Ring.rangeSet 2048 k 2048) fun t => outPt d c t fo
def srcRest (k : ℕ) : sProp 𝕄 := bigSep (Ring.rangeSet 2048 k 2048) fun t => srcPt d c tb ph hph t

theorem outRest_head (t : Fin 2048) : outRest d c fo t.val = iprop(outPt d c t fo ∗ outRest d c fo (t.val + 1)) :=
  Ring.bigSep_rangeSet_head t.isLt t.isLt
theorem srcRest_head (t : Fin 2048) : srcRest d c tb ph hph t.val = iprop(srcPt d c tb ph hph t ∗ srcRest d c tb ph hph (t.val + 1)) :=
  Ring.bigSep_rangeSet_head t.isLt t.isLt

/-- Before copy `k`: `k` copies started, all but the last 64 of them waited for. -/
def Issued (O : CellTallies nD τ sig (HIx 1)) (k : ℕ) : sProp 𝕄 :=
  iprop(St d c tb ph hph O k ((k - 64) * rowUnits) ∗ outRest d c fo k ∗ srcRest d c tb ph hph k)

/-- The index buffer, holding block `r` of the half's index words. -/
def Block (r : ℕ) (fx : S128.Idx → Elt F .i32) : Prop :=
  ∀ (j : Fin 128) (h : 128 * r + j.val < 2048), fx (fun | 0 => j) = word c ph ⟨128 * r + j.val, h⟩

/-- Trip `(r, j)`'s guarded wait, as the body spells it. -/
def guardProg (r : Fin k1_t1_loop.trips) (j : Fin k1_t2_loop.trips) : Prog (TpuEff nD τ sig (Elt F) Λ₀ (Sq d c).2) PUnit :=
  if _h : k1_cond1 r j = 1#1 then .op (drainWait d c) fun _ => .ret PUnit.unit else .ret PUnit.unit

theorem guardProg_eq (r : Fin k1_t1_loop.trips) (j : Fin k1_t2_loop.trips) :
    guardProg (F := F) d c r j = if k1_cond1 r j = 1#1 then .op (drainWait d c) fun _ => .ret ⟨⟩ else .ret ⟨⟩ := by
  unfold guardProg; split <;> rfl

/-- Trip `(r, j)`, from the loaded word on, its copy into `M`. -/
def issueProg (r : Fin k1_t1_loop.trips) (j : Fin k1_t2_loop.trips) (M : Memref sig .scScalar .hbm S128x128 .f32) (hM : M.view.WordExact)
    (v : Elt F .i32) : Prog (TpuEff nD τ sig (Elt F) Λ₀ (Sq d c).2) PUnit :=
  .op (.assume (k1_chk1 v) (k1_chk1.dec v)) fun hw =>
    .op (TpuEff.enqueueDma (p := (Sq d c).2) (sptRow v hw.down) (.here M) rowSem ((View.wordExact_bits rfl).reshape _ _) hM
      (show DmaTarget.Typed (nD := nD) (τ := τ) (p := (Sq d c).2) Space.shared rowSem (.here M) from ⟨Or.inl rfl, trivial⟩)) fun _ => guardProg d c r j

/-- The row that trip `(r, j)` copies to, as the body spells it. -/
abbrev dstM (r : Fin k1_t1_loop.trips) (j : Fin k1_t2_loop.trips) : Memref sig .scScalar .hbm S128x128 .f32 :=
  ((outW).slice (Rect.unit (s := S4096x128x128) (k1_off3 (coordsC c) r j) S1x128x128.size (k1_off3_inb (coordsC c) r j)) (fun _ => rfl)).squeeze S128x128 squeezes_S1x128x128_S128x128

theorem trip2_eq (r : Fin k1_t1_loop.trips) (j : Fin k1_t2_loop.trips) :
    k1_t2_body (F := F) (coordsC c) tbW (Memref.isWhole_whole _) phW (Memref.isWhole_whole _) outW (Memref.isWhole_whole _)
            ixW (Memref.isWhole_whole _) spW (Memref.isWhole_whole _) cc1_scratch2 cc1_scratch3 cc1_scoped0 r j ()
      = smemLoadElt ixW (Rect.unit (s := S128) (k1_off2 j) S1.size (k1_off2_inb j)) (View.loads_smem_one rfl numel1_S1)
          (Shape.Idx.first (numel1_S1.symm ▸ Nat.one_pos)) (issueProg d c r j (dstM c r j) ((View.wordExact_bits rfl).reshape _ _)) := rfl

/-- From the loaded word on. -/
theorem issue_run (O : CellTallies nD τ sig (HIx 1)) (r : Fin k1_t1_loop.trips) (j : Fin k1_t2_loop.trips)
    (M : Memref sig .scScalar .hbm S128x128 .f32) (hW : M.view.WordExact) (hM : M = outRow (rowOf c (copyOf r j)))
    (v : Elt F .i32) (hv : v = word c ph (copyOf r j)) :
    Issued d c tb ph hph fo O (copyOf r j).val
      ⊢ wp frame (wpE (defs₀ (F := F)) 𝒱₀ (Sq d c) none) Set.univ (issueProg d c r j M hW v)
          fun _ => Issued d c tb ph hph fo O ((copyOf r j).val + 1) := by
  subst hv hM
  unfold issueProg
  refine BIBase.Entails.trans ?_ (wp_assume 𝒱₀ (Sq d c) none Set.univ (hph (rowOf c (copyOf r j))))
  unfold Issued
  rw [outRest_head, srcRest_head]
  unfold St
  iintro ⟨⟨#Hmw, HB, HO⟩, ⟨Hd, Hout⟩, Hs, Hsrc⟩
  iapply (issue d c tb ph hph fo (copyOf r j) (u := ((copyOf r j).val - 64) * rowUnits) (Nat.mul_le_mul_right _ (Nat.sub_le _ _))) $$ [HB Hd Hs]
  · isplitl [Hs]; · iexact Hs
    isplitl [Hd]; · iexact Hd
    iexact HB
  iintro HB
  iapply (wp_wand_r Idealize.ShloMosaic.frame (wpE (defs₀ (F := F)) 𝒱₀ (Sq d c) none) Set.univ)
  isplitl [HB HO]
  · iapply (guard_run d c tb ph hph O r j (guardProg_eq d c r j))
    unfold St
    isplitr; · iexact Hmw
    isplitl [HB] <;> iassumption
  iintro %_ H
  unfold St
  isplitl [H]; · iexact H
  isplitl [Hout] <;> iassumption

/-- Trip `(r, j)`. -/
theorem trip2_run (O : CellTallies nD τ sig (HIx 1)) (r : Fin k1_t1_loop.trips) (fx : S128.Idx → Elt F .i32) (hfx : Block c ph r.val fx)
    (j : Fin k1_t2_loop.trips) :
    iprop((ixLoc d c ↦{fullShare} fx) ∗ Issued d c tb ph hph fo O (128 * r.val + j.val))
      ⊢ wp frame (wpE (defs₀ (F := F)) 𝒱₀ (Sq d c) none) Set.univ
          (k1_t2_body (coordsC c) tbW (Memref.isWhole_whole _) phW (Memref.isWhole_whole _) outW (Memref.isWhole_whole _)
            ixW (Memref.isWhole_whole _) spW (Memref.isWhole_whole _) cc1_scratch2 cc1_scratch3 cc1_scoped0 r j ())
          fun _ => iprop((ixLoc d c ↦{fullShare} fx) ∗ Issued d c tb ph hph fo O (128 * r.val + (j.val + 1))) := by
  rw [trip2_eq d]
  have hj := t2_lt j
  have hv : ((ixW).access (Rect.unit (s := S128) (k1_off2 j) S1.size (k1_off2_inb j))).read (Elt F) fx (Shape.Idx.first (numel1_S1.symm ▸ Nat.one_pos)) = word c ph (copyOf r j) := by
    refine Eq.trans ?_ (hfx ⟨j.val, hj⟩ (copyOf r j).isLt)
    change fx _ = fx _
    congr 1
    funext a
    fin_cases a
    apply Fin.ext
    change k1_off2 j 0 + 1 * 0 = j.val
    rw [k1_off2_eq]; rfl
  iintro ⟨Hx, HI⟩
  iapply (wp_smemLoadElt 𝒱₀ (Sq d c) none Set.univ (m := ixW) (S := Finset.univ) (q := fullShare) (f := fx) (Finset.subset_univ _)) $$ [Hx]
  · iexact Hx
  iintro Hx
  iapply (wp_wand_r Idealize.ShloMosaic.frame (wpE (defs₀ (F := F)) 𝒱₀ (Sq d c) none) Set.univ)
  isplitl [HI]
  · iapply (issue_run d c tb ph hph fo O r j _ _ (dst_eq c r j) _ hv); iexact HI
  iintro %_ HI
  isplitl [Hx] <;> iassumption

end Issue

end Cert.Proof.Gather

end
-- ==== Proof.Block.lean ====
/-
  The index blocks: block `r` of the half's index words is copied to the sequencer's scalar memory and waited for, then
  its 128 rows are issued.
-/
module

public import proofs.«01_k».proof.Proof.Issue

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

local notation "tbW" => (Memref.whole Cert.KernelIdeal.main_v0_scs : Memref Cert.KernelIdeal.sig Kind.scScalar Space.hbm Cert.KernelIdeal.S64x128x128 EltTy.f32)
local notation "phW" => (Memref.whole Cert.KernelIdeal.main_arg0_scs : Memref Cert.KernelIdeal.sig Kind.scScalar Space.hbm Cert.KernelIdeal.S4096 EltTy.i32)
local notation "outW" => (Memref.whole Cert.KernelIdeal.main_v1_scs : Memref Cert.KernelIdeal.sig Kind.scScalar Space.hbm Cert.KernelIdeal.S4096x128x128 EltTy.f32)
local notation "ixW" => (Memref.whole Cert.KernelIdeal.cc1_scratch0 : Memref Cert.KernelIdeal.sig Kind.scScalar Space.smem Cert.KernelIdeal.S128 EltTy.i32)
local notation "spW" => (Memref.whole Cert.KernelIdeal.cc1_scratch1 : Memref Cert.KernelIdeal.sig Kind.scScalar Space.shared Cert.KernelIdeal.S64x128x128 EltTy.f32)

section Blocks

variable (d : Dev nD) (c : Fin (grid1.bound 0))

/-- What a sequencer may wait for and what it owes. -/
def Owed (O : CellTallies nD τ sig (HIx 1)) : sProp 𝕄 :=
  iprop(Transfers.MayWaits (Sq d c) (none : HIx 1) O ∗ ∃ W', owes (Sq d c) O W')

/-- A copy and the wait for it, on a semaphore at zero: what the copy delivers, and the semaphore at zero again. -/
theorem copy_wait (O : CellTallies nD τ sig (HIx 1)) {sp sp' : Space} {s : Shape} {e : EltTy}
    (src : Memref sig .scScalar sp s e) (dst : Memref sig .scScalar sp' s e) (sm : DmaSem sig)
    {hsrc : src.view.WordExact} {hdst : dst.view.WordExact} {hsrc' : src.view.WordExact} {hdst' : dst.view.WordExact}
    {hsem : DmaTarget.Typed (nD := nD) (τ := τ) (p := (Sq d c).2) sp (.dma sm) (.here dst)}
    (hpos : 0 < dst.view.dmaCredit) (hN : dst.view.amount (SemLoc.dma sm) = dst.view.dmaCredit) {q : PosShare TreeShare}
    {fs : Buf (Elt F) (src.view.loc (Sq d c))} {fd : Buf (Elt F) (dst.view.loc (Sq d c))}
    (P : sProp 𝕄) [BI.Storable (upEmb : UEmb _ 𝕄) P]
    (hP : iprop((dst.view.loc (Sq d c) ↦[dst.view.set]{fullShare} (dst.view.write (Elt F) fd (src.view.read (Elt F) fs) Finset.univ))
      ∗ (src.view.loc (Sq d c) ↦[src.view.set]{q} fs)) ⊢ P)
    {α : Type} {kk : PUnit → Prog (TpuEff nD τ sig (Elt F) Λ₀ (Sq d c).2) α} {Q : α → sProp 𝕄} :
    iprop((src.view.loc (Sq d c) ↦[src.view.set]{q} fs) ∗ (dst.view.loc (Sq d c) ↦[dst.view.set]{fullShare} fd)
        ∗ semVal (Sq d c, SemLoc.dma sm) 0 ∗ Owed d c O)
      ⊢ iprop((iprop(P ∗ semVal (Sq d c, SemLoc.dma sm) 0 ∗ Owed d c O) -∗ wp frame (wpE (defs₀ (F := F)) 𝒱₀ (Sq d c) none) Set.univ (kk ⟨⟩) Q)
        -∗ wp frame (wpE (defs₀ (F := F)) 𝒱₀ (Sq d c) none) Set.univ
            (.op (TpuEff.enqueueDma (p := (Sq d c).2) src (.here dst) (.dma sm) hsrc hdst hsem) fun _ => .op (.waitDma2 sm src dst hsrc' hdst') kk) Q) := by
  unfold Owed
  iintro ⟨Hs, Hd, Hv, #Hmw, %W', HO⟩ HQ
  imod (Transfers.batch_alloc' EC (c := Sq d c) (sm := .dma sm) (none : HIx 1) dst.view.dmaCredit (fun _ : Fin 1 => P) (E := Set.univ)) $$ Hv with HB
  iapply (Transfers.wp_dmaBatch (via := .same) (D := fun _ : Fin 1 => P) (j := 0) (u := 0) (q := q) (fs := fs) (fd := fd) (Sd := dst.view.set) EC 𝒱₀ (Sq d c) none
    (none : HIx 1) dst.view.dmaCredit hN (Finset.Subset.refl _) Nat.one_pos (Nat.zero_le _) hP) $$ [Hs Hd HB]
  · isplitl [Hs]; · iexact Hs
    isplitl [Hd]; · iexact Hd
    iexact HB
  iintro HB
  ihave HM := (Transfers.MayWaits.elim (.dma sm)) $$ Hmw
  iapply (Transfers.wp_waitBatchMulO EC 𝒱₀ (Sq d c) none (none : HIx 1) (N := dst.view.dmaCredit) (j := 0 + 1) (u := 0) (D := fun _ : Fin 1 => P) 1 (Nat.one_mul _).symm (by omega)) $$ [HB HO HM]
  · isplitl [HB]; · iexact HB
    isplitl [HO]; · iexact HO
    iexact HM
  iintro ⟨HB, HO⟩
  ihave HB := (BIBase.Entails.of_eq (congrArg (Transfers.Batch EC (Sq d c) (SemLoc.dma sm) (none : HIx 1) dst.view.dmaCredit (fun _ : Fin 1 => P) 1)
    (show 0 + 1 * dst.view.dmaCredit = dst.view.dmaCredit * 1 by omega))) $$ HB
  imod (Transfers.batch_collect' EC (Sq d c) hpos) $$ HB with ⟨HP, Hv⟩
  iapply HQ
  ihave HP := (BIBase.Entails.of_eq (show bigSep Finset.univ (fun _ : Fin 1 => P) = P by rw [Finset.univ_unique, bigSep_singleton])) $$ HP
  isplitl [HP]; · iexact HP
  isplitl [Hv]; · iexact Hv
  isplitr; · iexact Hmw
  iexists _; iexact HO

variable (tb : S64x128x128.Idx → Elt F .f32) (ph : S4096.Idx → Elt F .i32) (hph : ∀ b : Fin 4096, k1_chk1 (wordAt ph b))
variable (fo : S4096x128x128.Idx → Elt F .f32)

/-- Block `r` of the half's index words, as the body spells it. -/
abbrev blockM (r : Fin k1_t1_loop.trips) : Memref sig .scScalar .hbm S128 .i32 :=
  (phW).slice (Rect.unit (s := S4096) (k1_off1 (coordsC c) r) S128.size (k1_off1_inb (coordsC c) r)) (fun _ => rfl)

/-- The index buffer with block `r` in it. -/
def blockVal (r : Fin k1_t1_loop.trips) : S128.Idx → Elt F .i32 := (blockM c r).view.read (Elt F) ph

theorem blockVal_block (r : Fin k1_t1_loop.trips) : Block c ph r.val (blockVal c ph r) := by
  intro j h
  change ph _ = ph _
  congr 1
  funext a
  fin_cases a
  apply Fin.ext
  change k1_off1 (coordsC c) r 0 + 1 * j.val = 2048 * c.val + (128 * r.val + j.val)
  rw [k1_off1_eq, Nat.one_mul]
  change 2048 * c.val + 128 * r.val + j.val = _
  omega

/-- Block `r`'s 128 trips. -/
def rows128 (r : Fin k1_t1_loop.trips) : Prog (TpuEff nD τ sig (Elt F) Λ₀ (Sq d c).2) Unit :=
  Scf.Loop.for (E := TpuEff nD τ sig (Elt F) Λ₀ (Sq d c).2) k1_t2_loop k1_t2_ok () (k1_t2_body (F := F) (coordsC c) tbW (Memref.isWhole_whole _) phW (Memref.isWhole_whole _) outW (Memref.isWhole_whole _)
    ixW (Memref.isWhole_whole _) spW (Memref.isWhole_whole _) cc1_scratch2 cc1_scratch3 cc1_scoped0 r)

/-- A program followed by nothing. -/
def doneAfter (p : Prog (TpuEff nD τ sig (Elt F) Λ₀ (Sq d c).2) Unit) : Prog (TpuEff nD τ sig (Elt F) Λ₀ (Sq d c).2) Unit :=
  p >>= fun _ => .ret ()

theorem doneAfter_run {p : Prog (TpuEff nD τ sig (Elt F) Λ₀ (Sq d c).2) Unit} {P Q : sProp 𝕄}
    (h : P ⊢ wp frame (wpE (defs₀ (F := F)) 𝒱₀ (Sq d c) none) Set.univ p fun _ => Q) :
    P ⊢ wp frame (wpE (defs₀ (F := F)) 𝒱₀ (Sq d c) none) Set.univ (doneAfter d c p) fun _ => Q := by
  unfold doneAfter
  rw [wp_bind]
  refine h.trans (wp_mono Idealize.ShloMosaic.frame _ _ fun _ => ?_)
  rw [wp_ret]; exact fupd_intro

theorem rows128_run (O : CellTallies nD τ sig (HIx 1)) (r : Fin k1_t1_loop.trips) (fx : S128.Idx → Elt F .i32) (hfx : Block c ph r.val fx) :
    iprop((ixLoc d c ↦{fullShare} fx) ∗ Issued d c tb ph hph fo O (128 * r.val))
      ⊢ wp frame (wpE (defs₀ (F := F)) 𝒱₀ (Sq d c) none) Set.univ (rows128 d c r)
          fun _ => iprop((ixLoc d c ↦{fullShare} fx) ∗ Issued d c tb ph hph fo O (128 * (r.val + 1))) := by
  unfold rows128
  iintro H
  iapply (Scf.wp_for Idealize.ShloMosaic.frame (wpE (defs₀ (F := F)) 𝒱₀ (Sq d c) none) Set.univ _ _ _ k1_t2_ok () _
    (fun k _ => iprop((ixLoc d c ↦{fullShare} fx) ∗ Issued d c tb ph hph fo O (128 * r.val + k)))
    (fun j _ => trip2_run d c tb ph hph fo O r fx hfx j))
  isplitl [H]; · iexact H
  iintro %_ H
  irw [show 128 * (r.val + 1) = 128 * r.val + Scf.trips k1_t2_loop.lb k1_t2_loop.ub k1_t2_loop.st by have := trips2; change _ = 128 * r.val + k1_t2_loop.trips; rw [trips2]; omega]
  iexact H

theorem trip1_eq (r : Fin k1_t1_loop.trips) :
    k1_t1_body (F := F) (coordsC c) tbW (Memref.isWhole_whole _) phW (Memref.isWhole_whole _) outW (Memref.isWhole_whole _)
            ixW (Memref.isWhole_whole _) spW (Memref.isWhole_whole _) cc1_scratch2 cc1_scratch3 cc1_scoped0 r ()
      = .op (TpuEff.enqueueDma (p := (Sq d c).2) (blockM c r) (.here ixW) (.dma cc1_scoped0.sem) (View.wordExact_bits rfl) (Memref.isWhole_whole _).wordExact
          (show DmaTarget.Typed (nD := nD) (τ := τ) (p := (Sq d c).2) Space.hbm (.dma cc1_scoped0.sem) (.here ixW) from ⟨Or.inl rfl, trivial⟩)) fun _ =>
        .op (.waitDma2 cc1_scoped0.sem (blockM c r) ixW (View.wordExact_bits rfl) (Memref.isWhole_whole _).wordExact) fun _ =>
          doneAfter d c (rows128 d c r) := rfl

/-- The state carried over the index blocks: the index words' share, the index buffer, its semaphore, and the copies. -/
def Carry (O : CellTallies nD τ sig (HIx 1)) (q : PosShare TreeShare) (k : ℕ) : sProp 𝕄 :=
  iprop((phLoc d ↦{q} ph) ∗ (∃ fx, ixLoc d c ↦{fullShare} fx) ∗ semVal (Sq d c, SemLoc.dma cc1_scoped0.sem) 0 ∗ Issued d c tb ph hph fo O k)

/-- The index buffer holding block `r`, and the share of the index words back. -/
def Refilled (q : PosShare TreeShare) (r : Fin k1_t1_loop.trips) : sProp 𝕄 :=
  iprop((ixLoc d c ↦{fullShare} (blockVal c ph r)) ∗ (phLoc d ↦[(blockM c r).view.set]{q} ph))
instance (q : PosShare TreeShare) (r : Fin k1_t1_loop.trips) : BI.Storable (upEmb : UEmb _ 𝕄) (Refilled d c ph q r) := by
  unfold Refilled; infer_instance

theorem issued_eq (O : CellTallies nD τ sig (HIx 1)) (k : ℕ) : Issued d c tb ph hph fo O k
    = iprop((Transfers.MayWaits (Sq d c) (none : HIx 1) O ∗ Rows d c tb ph hph k ((k - 64) * rowUnits) ∗ ∃ W', owes (Sq d c) O W')
      ∗ outRest d c fo k ∗ srcRest d c tb ph hph k) := rfl

theorem refilled_of (q : PosShare TreeShare) (r : Fin k1_t1_loop.trips) (fx : S128.Idx → Elt F .i32) :
    (iprop(((ixW).view.loc (Sq d c) ↦[(ixW).view.set]{fullShare} ((ixW).view.write (Elt F) fx ((blockM c r).view.read (Elt F) ph) Finset.univ))
      ∗ ((blockM c r).view.loc (Sq d c) ↦[(blockM c r).view.set]{q} ph)) : sProp 𝕄) ⊢ Refilled d c ph q r := by
  unfold Refilled
  simp only [Memref.view_whole, View.set_whole]
  exact BIBase.Entails.of_eq (congrArg (fun f => iprop((ixLoc d c ↦{fullShare} f) ∗ (phLoc d ↦[(blockM c r).view.set]{q} ph) : sProp 𝕄))
    (View.write_whole_univ _ _ _))

/-- Block `r`: refilled, and its 128 rows issued. -/
theorem trip1_run (O : CellTallies nD τ sig (HIx 1)) (q : PosShare TreeShare) (r : Fin k1_t1_loop.trips) :
    Carry d c tb ph hph fo O q (128 * r.val)
      ⊢ wp frame (wpE (defs₀ (F := F)) 𝒱₀ (Sq d c) none) Set.univ
          (k1_t1_body (F := F) (coordsC c) tbW (Memref.isWhole_whole _) phW (Memref.isWhole_whole _) outW (Memref.isWhole_whole _)
            ixW (Memref.isWhole_whole _) spW (Memref.isWhole_whole _) cc1_scratch2 cc1_scratch3 cc1_scoped0 r ())
          fun _ => Carry d c tb ph hph fo O q (128 * (r.val + 1)) := by
  rw [trip1_eq d]
  unfold Carry Issued St
  iintro ⟨Hph, ⟨%fx, Hx⟩, Hv, ⟨Hmw, HB, HO⟩, Hout, Hsrc⟩
  ihave Hph' := (pointsTo_split_subset (ℓ := phLoc d) (S := Finset.univ) (q := q) (f := ph) (Finset.subset_univ (blockM c r).view.set)).1 $$ Hph
  icases Hph' with ⟨Hb, Hrest⟩
  iapply (copy_wait d c O (blockM c r) ixW cc1_scoped0.sem (q := q) (fs := ph) (fd := fx) (View.dmaCredit_pos _ (by decide)) rfl (Refilled d c ph q r) (refilled_of d c ph q r fx)) $$ [Hb Hx Hv Hmw HO]
  · unfold Owed
    isplitl [Hb]; · iexact Hb
    isplitl [Hx]
    · simp only [Memref.view_whole, View.set_whole]; iexact Hx
    isplitl [Hv]; · iexact Hv
    isplitl [Hmw] <;> iassumption
  unfold Refilled Owed
  iintro ⟨⟨Hx, Hb⟩, Hv, Hmw, HO⟩
  ihave Hph := (pointsTo_split_subset (ℓ := phLoc d) (S := Finset.univ) (q := q) (f := ph) (Finset.subset_univ (blockM c r).view.set)).2 $$ [Hb Hrest]
  · isplitl [Hb] <;> iassumption
  iapply (wp_wand_r Idealize.ShloMosaic.frame (wpE (defs₀ (F := F)) 𝒱₀ (Sq d c) none) Set.univ)
  isplitl [Hx Hmw HB HO Hout Hsrc]
  · iapply (doneAfter_run d c (rows128_run d c tb ph hph fo O r (blockVal c ph r) (blockVal_block c ph r)))
    unfold Issued St
    isplitl [Hx]; · iexact Hx
    isplitl [Hmw HB HO]
    · isplitl [Hmw]; · iexact Hmw
      isplitl [HB] <;> iassumption
    isplitl [Hout] <;> iassumption
  iintro %_ ⟨Hx, HI⟩
  isplitl [Hph]; · iexact Hph
  isplitl [Hx]; · iexists _; iexact Hx
  isplitl [Hv]; · iexact Hv
  ihave HI := (BIBase.Entails.of_eq (issued_eq d c tb ph hph fo O _)) $$ HI
  iexact HI

end Blocks

end Cert.Proof.Gather

end
-- ==== Proof.Seq.lean ====
/-
  A sequencer's whole body: the table copied to the shared memory, the half's rows issued block by block, the drain. What
  it starts from and what it leaves: its half of the result, each row the table's row its index word names.
-/
module

public import proofs.«01_k».proof.Proof.Block

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

local notation "tbW" => (Memref.whole Cert.KernelIdeal.main_v0_scs : Memref Cert.KernelIdeal.sig Kind.scScalar Space.hbm Cert.KernelIdeal.S64x128x128 EltTy.f32)
local notation "phW" => (Memref.whole Cert.KernelIdeal.main_arg0_scs : Memref Cert.KernelIdeal.sig Kind.scScalar Space.hbm Cert.KernelIdeal.S4096 EltTy.i32)
local notation "outW" => (Memref.whole Cert.KernelIdeal.main_v1_scs : Memref Cert.KernelIdeal.sig Kind.scScalar Space.hbm Cert.KernelIdeal.S4096x128x128 EltTy.f32)
local notation "ixW" => (Memref.whole Cert.KernelIdeal.cc1_scratch0 : Memref Cert.KernelIdeal.sig Kind.scScalar Space.smem Cert.KernelIdeal.S128 EltTy.i32)
local notation "spW" => (Memref.whole Cert.KernelIdeal.cc1_scratch1 : Memref Cert.KernelIdeal.sig Kind.scScalar Space.shared Cert.KernelIdeal.S64x128x128 EltTy.f32)

section Body

variable (d : Dev nD) (c : Fin (grid1.bound 0))

/-! ## The body's program -/

/-- One program after another. -/
def andThen (p q : Prog (TpuEff nD τ sig (Elt F) Λ₀ (Sq d c).2) PUnit) : Prog (TpuEff nD τ sig (Elt F) Λ₀ (Sq d c).2) PUnit :=
  p >>= fun _ => q

theorem andThen_run {p q : Prog (TpuEff nD τ sig (Elt F) Λ₀ (Sq d c).2) PUnit} {P R Q : sProp 𝕄}
    (h : P ⊢ wp frame (wpE (defs₀ (F := F)) 𝒱₀ (Sq d c) none) Set.univ p fun _ => R)
    (h' : R ⊢ wp frame (wpE (defs₀ (F := F)) 𝒱₀ (Sq d c) none) Set.univ q fun _ => Q) :
    P ⊢ wp frame (wpE (defs₀ (F := F)) 𝒱₀ (Sq d c) none) Set.univ (andThen d c p q) fun _ => Q := by
  unfold andThen
  rw [wp_bind]
  exact h.trans (wp_mono Idealize.ShloMosaic.frame _ _ fun _ => h')

/-- The loop over the index blocks. -/
def blocks : Prog (TpuEff nD τ sig (Elt F) Λ₀ (Sq d c).2) PUnit :=
  Scf.Loop.for (E := TpuEff nD τ sig (Elt F) Λ₀ (Sq d c).2) k1_t1_loop k1_t1_ok () (k1_t1_body (F := F) (coordsC c) tbW (Memref.isWhole_whole _) phW (Memref.isWhole_whole _) outW (Memref.isWhole_whole _)
    ixW (Memref.isWhole_whole _) spW (Memref.isWhole_whole _) cc1_scratch2 cc1_scratch3 cc1_scoped0)

/-- The body after the table's copy. -/
def afterTable : Prog (TpuEff nD τ sig (Elt F) Λ₀ (Sq d c).2) PUnit := andThen d c (blocks d c) (drains d c 4)

/-- The body's first part. -/
def part1 : Prog (TpuEff nD τ sig (Elt F) Λ₀ (Sq d c).2) PUnit :=
  .op (TpuEff.enqueueDma (p := (Sq d c).2) tbW (.here spW) (.dma cc1_scratch2.sem) (Memref.isWhole_whole _).wordExact (Memref.isWhole_whole _).wordExact
    (show DmaTarget.Typed (nD := nD) (τ := τ) (p := (Sq d c).2) Space.hbm (.dma cc1_scratch2.sem) (.here spW) from ⟨Or.inl rfl, trivial⟩)) fun _ =>
  .op (.waitDma2 cc1_scratch2.sem tbW spW (Memref.isWhole_whole _).wordExact (Memref.isWhole_whole _).wordExact) fun _ => afterTable d c

theorem part1_eq : k1_part1 (F := F) (coordsC c) tbW (Memref.isWhole_whole _) phW (Memref.isWhole_whole _) outW (Memref.isWhole_whole _)
    ixW (Memref.isWhole_whole _) spW (Memref.isWhole_whole _) cc1_scratch2 cc1_scratch3 cc1_scoped0 = part1 d c := rfl

/-- The whole body. -/
def whole : Prog (TpuEff nD τ sig (Elt F) Λ₀ (Sq d c).2) PUnit := andThen d c (andThen d c (part1 d c) (drains d c 59)) (drains d c 1)

theorem part11_eq : k1_part11 (F := F) (coordsC c) tbW (Memref.isWhole_whole _) phW (Memref.isWhole_whole _) outW (Memref.isWhole_whole _)
    ixW (Memref.isWhole_whole _) spW (Memref.isWhole_whole _) cc1_scratch2 cc1_scratch3 cc1_scoped0 = andThen d c (part1 d c) (drains d c 59) :=
  (show k1_part11 (F := F) (coordsC c) tbW (Memref.isWhole_whole _) phW (Memref.isWhole_whole _) outW (Memref.isWhole_whole _)
    ixW (Memref.isWhole_whole _) spW (Memref.isWhole_whole _) cc1_scratch2 cc1_scratch3 cc1_scoped0 = andThen d c (k1_part1 (F := F) (coordsC c) tbW (Memref.isWhole_whole _) phW (Memref.isWhole_whole _) outW (Memref.isWhole_whole _)
    ixW (Memref.isWhole_whole _) spW (Memref.isWhole_whole _) cc1_scratch2 cc1_scratch3 cc1_scoped0) (drains d c 59) from rfl).trans
    (congrArg (fun p => andThen d c p (drains d c 59)) (part1_eq d c))

theorem body_eq : cc1__scs_body (F := F) (coordsC c) tbW (Memref.isWhole_whole _) phW (Memref.isWhole_whole _) outW (Memref.isWhole_whole _)
    ixW (Memref.isWhole_whole _) spW (Memref.isWhole_whole _) cc1_scratch2 cc1_scratch3 cc1_scoped0 = whole d c :=
  (show cc1__scs_body (F := F) (coordsC c) tbW (Memref.isWhole_whole _) phW (Memref.isWhole_whole _) outW (Memref.isWhole_whole _)
    ixW (Memref.isWhole_whole _) spW (Memref.isWhole_whole _) cc1_scratch2 cc1_scratch3 cc1_scoped0 = andThen d c (k1_part11 (F := F) (coordsC c) tbW (Memref.isWhole_whole _) phW (Memref.isWhole_whole _) outW (Memref.isWhole_whole _)
    ixW (Memref.isWhole_whole _) spW (Memref.isWhole_whole _) cc1_scratch2 cc1_scratch3 cc1_scoped0) (drains d c 1) from rfl).trans
    (congrArg (fun p => andThen d c p (drains d c 1)) (part11_eq d c))

variable (tb : S64x128x128.Idx → Elt F .f32) (ph : S4096.Idx → Elt F .i32) (hph : ∀ b : Fin 4096, k1_chk1 (wordAt ph b))
variable (fo : S4096x128x128.Idx → Elt F .f32)

theorem blocks_run (O : CellTallies nD τ sig (HIx 1)) (q : PosShare TreeShare) :
    Carry d c tb ph hph fo O q 0 ⊢ wp frame (wpE (defs₀ (F := F)) 𝒱₀ (Sq d c) none) Set.univ (blocks d c)
      fun _ => Carry d c tb ph hph fo O q 2048 := by
  unfold blocks
  iintro H
  iapply (Scf.wp_for Idealize.ShloMosaic.frame (wpE (defs₀ (F := F)) 𝒱₀ (Sq d c) none) Set.univ _ _ _ k1_t1_ok () _
    (fun k _ => Carry d c tb ph hph fo O q (128 * k)) (fun r _ => trip1_run d c tb ph hph fo O q r))
  isplitl [H]; · iexact H
  iintro %_ H
  irw [show 2048 = 128 * Scf.trips k1_t1_loop.lb k1_t1_loop.ub k1_t1_loop.st by have := trips1; change _ = 128 * k1_t1_loop.trips; rw [trips1]]
  iexact H

/-! ## The shares of the shared table and the rows of the half -/

/-- What the copies leave of the shared table's share: the last remainder, and of each read share the rows its copy does not read. -/
def spare : sProp 𝕄 :=
  iprop((spLoc d c ↦{Transfers.shareDrop fullShare 2048} tb)
    ∗ bigSep Finset.univ fun t : Fin 2048 => spLoc d c ↦[Finset.univ \ srcSet (word c ph t) (hph (rowOf c t))]{Transfers.shareTokN fullShare t.val} tb)

theorem shared_split : (spLoc d c ↦{fullShare} tb : sProp 𝕄)
    ⊣⊢ iprop((bigSep Finset.univ fun t : Fin 2048 => srcPt d c tb ph hph t) ∗ spare d c tb ph hph) := by
  have h1 : (bigSep Finset.univ fun t : Fin 2048 => (spLoc d c ↦{Transfers.shareTok fullShare 2048 t} tb : sProp 𝕄))
      = iprop((bigSep Finset.univ fun t : Fin 2048 => srcPt d c tb ph hph t)
          ∗ bigSep Finset.univ fun t : Fin 2048 => spLoc d c ↦[Finset.univ \ srcSet (word c ph t) (hph (rowOf c t))]{Transfers.shareTokN fullShare t.val} tb) := by
    rw [← bigSep_sep']
    exact bigSep_congr fun t _ => by
      have h : (spLoc d c ↦{Transfers.shareTokN fullShare t.val} tb : sProp 𝕄) ⊣⊢ _ := pointsTo_split_subset (ℓ := spLoc d c) (q := Transfers.shareTokN fullShare t.val) (f := tb)
        (S := Finset.univ) (I := srcSet (word c ph t) (hph (rowOf c t))) (Finset.subset_univ _)
      exact BI.equiv_iff.mp ⟨h.1, h.2⟩
  refine (Transfers.pointsTo_toks fullShare 2048).trans ?_
  rw [h1]
  unfold spare
  constructor
  · iintro ⟨Hd, Ht, Hr⟩
    isplitl [Ht]; · iexact Ht
    isplitl [Hd] <;> iassumption
  · iintro ⟨Ht, Hd, Hr⟩
    isplitl [Hd]; · iexact Hd
    isplitl [Ht] <;> iassumption

/-- The half of the result as its rows. -/
theorem half_rows (f : S4096x128x128.Idx → Elt F .f32) :
    (outLoc d ↦[halfSet c]{fullShare} f : sProp 𝕄) = bigSep Finset.univ fun t : Fin 2048 => outPt d c t f :=
  pointsTo_biUnion (ℓ := outLoc d) (q := fullShare) (f := f) Finset.univ (fun t : Fin 2048 => outSet (rowOf c t)) fun _ _ _ _ h => outSet_disjoint _ _ (rowOf_ne c h)

/-! ## The run -/

/-- What the body starts from. -/
def Start (O : CellTallies nD τ sig (HIx 1)) (q : PosShare TreeShare) : sProp 𝕄 :=
  iprop((tbLoc d ↦{q} tb) ∗ (phLoc d ↦{q} ph) ∗ (outLoc d ↦[halfSet c]{fullShare} fo)
    ∗ (∃ fx, ixLoc d c ↦{fullShare} fx) ∗ (∃ fs, spLoc d c ↦{fullShare} fs)
    ∗ semVal (Sq d c, SemLoc.dma cc1_scratch2.sem) 0 ∗ semVal (Sq d c, SemLoc.dma cc1_scratch3.sem) 0 ∗ semVal (Sq d c, SemLoc.dma cc1_scoped0.sem) 0
    ∗ Owed d c O)

/-- The shared table and the table's share, after the copy. -/
def Copied (q : PosShare TreeShare) : sProp 𝕄 := iprop((spLoc d c ↦{fullShare} tb) ∗ (tbLoc d ↦{q} tb))
instance (q : PosShare TreeShare) : BI.Storable (upEmb : UEmb _ 𝕄) (Copied d c tb q) := by unfold Copied; infer_instance

theorem copied_of (q : PosShare TreeShare) (fs : S64x128x128.Idx → Elt F .f32) :
    (iprop(((spW).view.loc (Sq d c) ↦[(spW).view.set]{fullShare} ((spW).view.write (Elt F) fs ((tbW).view.read (Elt F) tb) Finset.univ))
      ∗ ((tbW).view.loc (Sq d c) ↦[(tbW).view.set]{q} tb)) : sProp 𝕄) ⊢ Copied d c tb q := by
  unfold Copied
  simp only [Memref.view_whole, View.set_whole]
  exact BIBase.Entails.of_eq (congrArg (fun f => iprop((spLoc d c ↦{fullShare} f) ∗ (tbLoc d ↦{q} tb) : sProp 𝕄))
    ((View.write_whole_univ _ _ _).trans (View.read_whole _ _)))

/-- The loop and the drain, from the copies' state. -/
theorem tail_run (O : CellTallies nD τ sig (HIx 1)) (q : PosShare TreeShare) :
    Carry d c tb ph hph fo O q 0 ⊢ wp frame (wpE (defs₀ (F := F)) 𝒱₀ (Sq d c) none) Set.univ
      (afterTable d c) fun _ => iprop((phLoc d ↦{q} ph) ∗ (∃ fx, ixLoc d c ↦{fullShare} fx) ∗ semVal (Sq d c, SemLoc.dma cc1_scoped0.sem) 0
        ∗ St d c tb ph hph O 2048 (1988 * rowUnits)) := by
  unfold afterTable
  refine andThen_run d c (blocks_run d c tb ph hph fo O q) ?_
  unfold Carry Issued
  iintro ⟨Hph, Hx, Hv, HS, -, -⟩
  iapply (wp_wand_r Idealize.ShloMosaic.frame (wpE (defs₀ (F := F)) 𝒱₀ (Sq d c) none) Set.univ)
  isplitl [HS]
  · iapply (drains_run d c tb ph hph O 2048 4 ((2048 - 64) * rowUnits) (by rw [← Nat.add_mul, Nat.mul_comm rowUnits]; exact Nat.mul_le_mul_right _ (by decide))); iexact HS
  iintro %_ HS
  isplitl [Hph]; · iexact Hph
  isplitl [Hx]; · iexact Hx
  isplitl [Hv]; · iexact Hv
  irw [show 1988 * rowUnits = (2048 - 64) * rowUnits + 4 * rowUnits by omega]
  iexact HS

/-- What the body leaves. -/
def Finish (O : CellTallies nD τ sig (HIx 1)) (q : PosShare TreeShare) : sProp 𝕄 :=
  iprop((tbLoc d ↦{q} tb) ∗ (phLoc d ↦{q} ph) ∗ (outLoc d ↦[halfSet c]{fullShare} (gathered tb ph))
    ∗ (∃ fx, ixLoc d c ↦{fullShare} fx) ∗ (∃ fs, spLoc d c ↦{fullShare} fs)
    ∗ semVal (Sq d c, SemLoc.dma cc1_scratch2.sem) 0 ∗ semVal (Sq d c, SemLoc.dma cc1_scratch3.sem) 0 ∗ semVal (Sq d c, SemLoc.dma cc1_scoped0.sem) 0
    ∗ ∃ W', owes (Sq d c) O W')

/-- Beside the copies' state: the table's share, the spare shares of the shared table, the table copy's semaphore. -/
def Aside (q : PosShare TreeShare) : sProp 𝕄 :=
  iprop((tbLoc d ↦{q} tb) ∗ spare d c tb ph hph ∗ semVal (Sq d c, SemLoc.dma cc1_scratch2.sem) 0)

/-- After the first part: the index words' share, the index buffer and its semaphore, the copies' state with `u` units waited for. -/
def Draining (O : CellTallies nD τ sig (HIx 1)) (q : PosShare TreeShare) (u : ℕ) : sProp 𝕄 :=
  iprop(Aside d c tb ph hph q ∗ (phLoc d ↦{q} ph) ∗ (∃ fx, ixLoc d c ↦{fullShare} fx) ∗ semVal (Sq d c, SemLoc.dma cc1_scoped0.sem) 0
        ∗ St d c tb ph hph O 2048 u)

theorem draining_step (O : CellTallies nD τ sig (HIx 1)) (q : PosShare TreeShare) (n u v : ℕ) (huv : u * rowUnits + n * rowUnits = v * rowUnits) (hv : v ≤ 2048) :
    Draining d c tb ph hph O q (u * rowUnits) ⊢ wp frame (wpE (defs₀ (F := F)) 𝒱₀ (Sq d c) none) Set.univ (drains d c n)
      fun _ => Draining d c tb ph hph O q (v * rowUnits) := by
  unfold Draining
  iintro ⟨HA, Hph, Hx, Hv, HS⟩
  iapply (wp_wand_r Idealize.ShloMosaic.frame (wpE (defs₀ (F := F)) 𝒱₀ (Sq d c) none) Set.univ)
  isplitl [HS]
  · iapply (drains_run d c tb ph hph O 2048 n (u * rowUnits) (by rw [huv, Nat.mul_comm rowUnits]; exact Nat.mul_le_mul_right _ hv)); iexact HS
  iintro %_ HS
  isplitl [HA]; · iexact HA
  isplitl [Hph]; · iexact Hph
  isplitl [Hx]; · iexact Hx
  isplitl [Hv]; · iexact Hv
  irw [← huv]
  iexact HS

/-- The table's copy, and on from it. -/
theorem part1_run (O : CellTallies nD τ sig (HIx 1)) (q : PosShare TreeShare) :
    Start d c tb ph fo O q ⊢ wp frame (wpE (defs₀ (F := F)) 𝒱₀ (Sq d c) none) Set.univ
      (part1 d c) fun _ => Draining d c tb ph hph O q (1988 * rowUnits) := by
  unfold Start part1
  iintro ⟨Htb, Hph, Hout, Hx, ⟨%fs, Hsp⟩, Hv2, Hv3, Hv0, HO⟩
  iapply (copy_wait d c O tbW spW cc1_scratch2.sem (q := q) (fs := tb) (fd := fs) (View.dmaCredit_pos _ (by decide)) rfl (Copied d c tb q) (copied_of d c tb q fs)) $$ [Htb Hsp Hv2 HO]
  · simp only [Memref.view_whole, View.set_whole]
    isplitl [Htb]; · iexact Htb
    isplitl [Hsp]; · iexact Hsp
    isplitl [Hv2] <;> iassumption
  unfold Copied Owed
  iintro ⟨⟨Hsp, Htb⟩, Hv2, Hmw, HO⟩
  ihave Hs := (shared_split d c tb ph hph).1 $$ Hsp
  icases Hs with ⟨Hsrc, Hspare⟩
  imod (Transfers.batch_alloc' EC (c := Sq d c) (sm := rowSem) (none : HIx 1) rowUnits (rowDone d c tb ph hph) (E := Set.univ)) $$ Hv3 with HB
  iapply (wp_wand_r Idealize.ShloMosaic.frame (wpE (defs₀ (F := F)) 𝒱₀ (Sq d c) none) Set.univ)
  isplitl [Hph Hout Hx Hv0 Hmw HO Hsrc HB]
  · iapply (tail_run d c tb ph hph fo O q)
    unfold Carry Issued St Rows outRest srcRest
    irw [Nat.zero_sub, Nat.zero_mul, Ring.rangeSet_univ, ← half_rows]
    isplitl [Hph]; · iexact Hph
    isplitl [Hx]; · iexact Hx
    isplitl [Hv0]; · iexact Hv0
    isplitl [Hmw HB HO]
    · isplitl [Hmw]; · iexact Hmw
      isplitl [HB] <;> iassumption
    isplitl [Hout] <;> iassumption
  iintro %_ ⟨Hph, Hx, Hv0, HS⟩
  unfold Draining Aside
  isplitl [Htb Hspare Hv2]
  · isplitl [Htb]; · iexact Htb
    isplitl [Hspare] <;> iassumption
  isplitl [Hph]; · iexact Hph
  isplitl [Hx]; · iexact Hx
  isplitl [Hv0] <;> iassumption

/-- Everything waited for: the rows are the table's rows. -/
theorem drained (O : CellTallies nD τ sig (HIx 1)) (q : PosShare TreeShare) :
    Draining d c tb ph hph O q (2048 * rowUnits) ⊢ iprop(|={Set.univ}=> Finish d c tb ph O q) := by
  unfold Draining Aside St Rows
  iintro ⟨⟨Htb, Hspare, Hv2⟩, Hph, Hx, Hv0, -, HB, HO⟩
  ihave HB := (BIBase.Entails.of_eq (congrArg (Transfers.Batch EC (Sq d c) rowSem (none : HIx 1) rowUnits (rowDone d c tb ph hph) 2048)
    (Nat.mul_comm 2048 rowUnits))) $$ HB
  imod (Transfers.batch_collect' EC (Sq d c) rowUnits_pos) $$ HB with ⟨HD, Hv3⟩
  ihave HD := (BIBase.Entails.of_eq (show bigSep Finset.univ (rowDone d c tb ph hph)
      = iprop((outLoc d ↦[halfSet c]{fullShare} (gathered tb ph)) ∗ bigSep Finset.univ fun t : Fin 2048 => srcPt d c tb ph hph t)
    from by rw [half_rows, ← bigSep_sep']; rfl)) $$ HD
  icases HD with ⟨Hout, Hsrc⟩
  ihave Hsp := (shared_split d c tb ph hph).2 $$ [Hsrc Hspare]
  · isplitl [Hsrc] <;> iassumption
  imodintro
  unfold Finish
  isplitl [Htb]; · iexact Htb
  isplitl [Hph]; · iexact Hph
  isplitl [Hout]; · iexact Hout
  isplitl [Hx]; · iexact Hx
  isplitl [Hsp]; · iexists _; iexact Hsp
  isplitl [Hv2]; · iexact Hv2
  isplitl [Hv3]; · iexact Hv3
  isplitl [Hv0] <;> iassumption

include hph in
/-- A sequencer's body. -/
theorem seq_run (O : CellTallies nD τ sig (HIx 1)) (q : PosShare TreeShare) :
    Start d c tb ph fo O q ⊢ wp frame (wpE (defs₀ (F := F)) 𝒱₀ (Sq d c) none) Set.univ (whole d c) fun _ => Finish d c tb ph O q := by
  unfold whole
  refine andThen_run d c (andThen_run d c (part1_run d c tb ph hph fo O q)
    (draining_step d c tb ph hph O q 59 1988 2047 (by omega) (by decide))) ?_
  iintro H
  iapply (wp_fupd Idealize.ShloMosaic.frame (wpE (defs₀ (F := F)) 𝒱₀ (Sq d c) none) Set.univ)
  iapply (wp_wand_r Idealize.ShloMosaic.frame (wpE (defs₀ (F := F)) 𝒱₀ (Sq d c) none) Set.univ)
  isplitl [H]
  · iapply (draining_step d c tb ph hph O q 1 2047 2048 (by omega) (by decide)); iexact H
  iintro %_ H
  iapply (drained d c tb ph hph O q); iexact H

end Body

end Cert.Proof.Gather

end
-- ==== Proof.Calls.lean ====
/-
  The sequencers' side of the launch: what each SparseCore is handed at the call and what it hands back, and the run of
  its body from there.
-/
module

public import proofs.«01_k».proof.Proof.Seq

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

local notation "tbW" => (Memref.whole Cert.KernelIdeal.main_v0_scs : Memref Cert.KernelIdeal.sig Kind.scScalar Space.hbm Cert.KernelIdeal.S64x128x128 EltTy.f32)
local notation "phW" => (Memref.whole Cert.KernelIdeal.main_arg0_scs : Memref Cert.KernelIdeal.sig Kind.scScalar Space.hbm Cert.KernelIdeal.S4096 EltTy.i32)
local notation "outW" => (Memref.whole Cert.KernelIdeal.main_v1_scs : Memref Cert.KernelIdeal.sig Kind.scScalar Space.hbm Cert.KernelIdeal.S4096x128x128 EltTy.f32)
local notation "ixW" => (Memref.whole Cert.KernelIdeal.cc1_scratch0 : Memref Cert.KernelIdeal.sig Kind.scScalar Space.smem Cert.KernelIdeal.S128 EltTy.i32)
local notation "spW" => (Memref.whole Cert.KernelIdeal.cc1_scratch1 : Memref Cert.KernelIdeal.sig Kind.scScalar Space.shared Cert.KernelIdeal.S64x128x128 EltTy.f32)

variable (m : (ℓ : Loc nD τ sig) → Buf (Elt F) ℓ)

/-- The table that the TensorCore's kernel builds from the launch arrays. -/
def tableOf (d : Dev nD) : S64x128x128.Idx → Elt F .f32 := k0_pay1 (F := F) (m (sLoc d)) (m (gLoc d))

/-- The share of the table and of the index words that SparseCore `c` reads by. -/
abbrev qOf (c : Fin (grid1.bound 0)) : PosShare TreeShare := Transfers.shareTok fullShare 2 c

/-- A number below two as a SparseCore of the grid. -/
abbrev coreOf (n : ℕ) : Fin (grid1.bound 0) := ⟨n % 2, Nat.mod_lt _ (by decide)⟩

/-- What SparseCore `c` is handed: a share of the table and of the index words, and its half of the result at `f`. -/
def handed (d : Dev nD) (c : Fin (grid1.bound 0)) (f : S4096x128x128.Idx → Elt F .f32) : sProp 𝕄 :=
  iprop((tbLoc d ↦{qOf c} (tableOf m d)) ∗ (phLoc d ↦{qOf c} (m (phLoc d))) ∗ (outLoc d ↦[halfSet c]{fullShare} f))
instance (d : Dev nD) (c : Fin (grid1.bound 0)) (f : S4096x128x128.Idx → Elt F .f32) : BI.Storable (upEmb : UEmb _ 𝕄) (handed m d c f) := by
  unfold handed; infer_instance

/-- The result that the launch arrays determine. -/
def resultOf (d : Dev nD) : S4096x128x128.Idx → Elt F .f32 := gathered (tableOf m d) (m (phLoc d))

/-- The call's payloads: each SparseCore's shares and half, out and back with the half's rows gathered. -/
def P : (K (F := F)).Pay (nD := nD) (Val := Elt F) (Name := ℕ) (U := UU) where
  st := fun _ d c => handed m d (coreOf c.val) (m (outLoc d))
  dn := fun _ d c => handed m d (coreOf c.val) (resultOf m d)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## A sequencer's scratch and semaphores -/

section Scratch
variable (d : Dev nD)

/-- The three cells that the body names. -/
abbrev cellNo (k : Fin 3) : DmaSem sig := ⟨k.val + 3, by have := k.isLt; show _ < 6; omega⟩
abbrev cellAt (c : Fin τ.nSC) (k : Fin 3) : GSem nD τ sig := (S d c, .dma (cellNo k))

omit [FloatOps F] in
theorem cellAt_mem (c : Fin τ.nSC) (k : Fin 3) : cellAt d c k ∈ ownCells (S d c) :=
  mem_ownCells.mpr ⟨rfl, (show ∀ s : DmaSem sig, (SemLoc.dma s : SemLoc sig).isScoped .scScalar = true by decide) _⟩

/-- The cells a sequencer keeps aside. -/
def cellsRest (c : Fin τ.nSC) : sProp 𝕄 := bigSep ((ownCells (S d c)) \ Finset.univ.image (cellAt d c)) fun g => semVal g 0

omit [FloatOps F] in
theorem ownSems0_seq (c : Fin (grid1.bound 0)) :
    (ownSems0 (Sq d c) : sProp 𝕄)
      = iprop((semVal (Sq d c, SemLoc.dma cc1_scratch2.sem) 0 ∗ semVal (Sq d c, SemLoc.dma cc1_scratch3.sem) 0 ∗ semVal (Sq d c, SemLoc.dma cc1_scoped0.sem) 0)
        ∗ cellsRest d (c.castLE hcore1)) := by
  unfold SparseCore.Cfg.ownSems0 cellsRest
  rw [SparseCore.bigSep_sdiff_split' (t := Finset.univ.image (cellAt d (c.castLE hcore1))) (Finset.image_subset_iff.mpr fun k _ => cellAt_mem d _ k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 3)) = {0, 1, 2} by decide,
    SparseCore.bigSep_insert' (by decide), SparseCore.bigSep_insert' (by decide), bigSep_singleton]
  rfl

/-- The buffers a sequencer keeps aside. -/
def bufsRest (c : Fin τ.nSC) : sProp 𝕄 :=
  bigSep (((ownRefs (τ := τ) (.scScalar c)).erase ((Proc.scScalar c).devRef cc1_scratch0)).erase ((Proc.scScalar c).devRef cc1_scratch1))
    fun b => iprop(∃ f, ((d, b) : Loc nD τ sig) ↦{fullShare} f)

omit [FloatOps F] in
theorem ownBufs_seq (c : Fin (grid1.bound 0)) :
    (ownBufs (Sq d c) : sProp 𝕄)
      = iprop((∃ f, ixLoc d c ↦{fullShare} f) ∗ (∃ f, spLoc d c ↦{fullShare} f) ∗ bufsRest d (c.castLE hcore1)) := by
  unfold SparseCore.Cfg.ownBufs bufsRest
  have h0 : (Proc.scScalar (c.castLE hcore1)).devRef cc1_scratch0 ∈ ownRefs (τ := τ) (.scScalar (c.castLE hcore1)) :=
    (mem_ownRefs (p := Proc.scScalar (c.castLE hcore1)) (b := (Proc.scScalar (c.castLE hcore1)).devRef cc1_scratch0)).mpr rfl
  have h1 : (Proc.scScalar (c.castLE hcore1)).devRef cc1_scratch1 ∈ ownRefs (τ := τ) (.scScalar (c.castLE hcore1)) :=
    (mem_ownRefs (p := Proc.scScalar (c.castLE hcore1)) (b := (Proc.scScalar (c.castLE hcore1)).devRef cc1_scratch1)).mpr rfl
  have hne : (Proc.scScalar (c.castLE hcore1)).devRef cc1_scratch1 ≠ (Proc.scScalar (c.castLE hcore1)).devRef (τ := τ) cc1_scratch0 := by
    intro e; have := congrArg DevRef.table e; revert this; simp [Proc.devRef]; try decide
  rw [SparseCore.bigSep_erase' h0, SparseCore.bigSep_erase' (Finset.mem_erase.mpr ⟨hne, h1⟩)]

end Scratch

/-! ## The body at the call -/

variable (hph : ∀ (d : Dev nD) (b : Fin 4096), k1_chk1 (wordAt (F := F) (m (phLoc d)) b))

include hph in
/-- SparseCore `c`'s sequencer at the call. -/
theorem seq_call (hF : (K (F := F)).Facts) (d : Dev nD) (c : Fin (grid1.bound 0)) (O : CellTallies nD τ sig (HIx 1)) (W : Waits sig (HIx 1)) (hO : ∀ g, O g none = 0) :
    iprop(levAts (K (F := F)).L (K (F := F)).lev ∗ emp ∗ handed m d c (m (outLoc d))
        ∗ scopedBufs (Sq d c) ∗ scopedSems0 (Sq d c) ∗ owes (Sq d c) O W)
      ⊢ wp frame (wpE (defs₀ (F := F)) 𝒱₀ (Sq d c) none) Set.univ (cc1__scs_body (F := F) (coordsC c) tbW (Memref.isWhole_whole _) phW (Memref.isWhole_whole _) outW (Memref.isWhole_whole _)
    ixW (Memref.isWhole_whole _) spW (Memref.isWhole_whole _) cc1_scratch2 cc1_scratch3 cc1_scoped0)
          fun _ => iprop(handed m d c (resultOf m d) ∗ scopedBufs (Sq d c) ∗ scopedSems0 (Sq d c)
            ∗ ∃ W', ⌜∀ p ∈ W', p ∈ W ∨ p.2 = none ∨ p.2 = some (0 : Fin 1)⌝ ∗ owes (Sq d c) O W') := by
  rw [body_eq d c, (K (F := F)).scopedBufs_S hF d _, SparseCore.Cfg.scopedSems0_S (Val := Elt F) d _, ownSems0_seq, ownBufs_seq]
  unfold handed
  iintro ⟨#Hlv, -, ⟨Htb, Hph, Hout⟩, ⟨⟨Hix, Hsp, Hbufs⟩, Htiles⟩, ⟨⟨⟨Hv2, Hv3, Hv0⟩, Hsems⟩, HtileSems⟩, HO⟩
  ihave Hmw := ((K (F := F)).mayWaits_none (thr := Sq d c) hO) $$ Hlv
  iapply (wp_wand_r Idealize.ShloMosaic.frame (wpE (defs₀ (F := F)) 𝒱₀ (Sq d c) none) Set.univ)
  isplitl [Htb Hph Hout Hix Hsp Hv2 Hv3 Hv0 HO]
  · iapply (seq_run d c (tableOf m d) (m (phLoc d)) (hph d) (m (outLoc d)) O (qOf c))
    unfold Start Owed
    isplitl [Htb]; · iexact Htb
    isplitl [Hph]; · iexact Hph
    isplitl [Hout]; · iexact Hout
    isplitl [Hix]; · iexact Hix
    isplitl [Hsp]; · iexact Hsp
    isplitl [Hv2]; · iexact Hv2
    isplitl [Hv3]; · iexact Hv3
    isplitl [Hv0]; · iexact Hv0
    isplitr; · iexact Hmw
    iexists W; iexact HO
  unfold Finish
  iintro %_ ⟨Htb, Hph, Hout, Hix, Hsp, Hv2, Hv3, Hv0, %W', HO⟩
  isplitl [Htb Hph Hout]
  · isplitl [Htb]; · iexact Htb
    isplitl [Hph]; · iexact Hph
    iexact Hout
  isplitl [Hix Hsp Hbufs Htiles]
  · isplitl [Hix Hsp Hbufs]
    · isplitl [Hix]; · iexact Hix
      isplitl [Hsp] <;> iassumption
    iexact Htiles
  isplitl [Hv2 Hv3 Hv0 Hsems HtileSems]
  · isplitl [Hv2 Hv3 Hv0 Hsems]
    · isplitl [Hv2 Hv3 Hv0]
      · isplitl [Hv2]; · iexact Hv2
        isplitl [Hv3] <;> iassumption
      iexact Hsems
    iexact HtileSems
  iexists W'; isplitr
  · ipureintro; intro p _
    rcases p.2 with _ | q
    · exact .inr (.inl rfl)
    · exact .inr (.inr (congrArg some (Subsingleton.elim q 0)))
  · iexact HO

theorem defs₀_scalar (c : Fin τ.nSC) :
    defs₀ (F := F) (.scScalar c) 1 ()
      = SparseCore.onCore hcore1 (fun c => cc1__scs_body (F := F) (coordsC c) tbW (Memref.isWhole_whole _) phW (Memref.isWhole_whole _) outW (Memref.isWhole_whole _)
    ixW (Memref.isWhole_whole _) spW (Memref.isWhole_whole _) cc1_scratch2 cc1_scratch3 cc1_scoped0) ⟨⟩ c := rfl

include hph in
/-- The call's obligation on the sequencers. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  have hc : ((K (F := F)).core 0 c).val < grid1.bound 0 := c.isLt
  rw [defs₀_scalar]; simp only [SparseCore.onCore, hc, ↓reduceDIte]
  have hcc : (⟨c.val, hc⟩ : Fin (grid1.bound 0)) = coreOf c.val := Fin.ext (Nat.mod_eq_of_lt hc).symm
  have h := seq_call m hph scFacts d ⟨c.val, hc⟩ O W hO
  rw [show handed m d ⟨c.val, hc⟩ = handed m d (coreOf c.val) from congrArg _ hcc] at h
  exact h

end Cert.Proof.Gather

end
-- ==== Proof.Table.lean ====
/-
  The TensorCore's kernel that builds the table: its body's run, and the custom call that launches it, from the
  launch arrays to the table in `main_v0`.
-/
module

public import proofs.«01_k».proof.Proof.Calls
public import proofs.«01_k».proof.Proof.Gen.KernelIdeal.Points
public import Idealize.ShloMosaic.Lib.Pipeline.Regions
public import Idealize.ShloMosaic.Lib.Pipeline.ValueKit
public import Idealize.ShloMosaic.Lib.VecWindow

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe
open Idealize.ShloMosaic.Pipeline (Dat Cfg Window BodyObligation)

variable {F : FTy → Type} [FloatOps F]

local notation "𝕄" => MT nD τ sig (HIx 1) (Elt F) ℕ UU ℕ

local notation "tbW" => (Memref.whole Cert.KernelIdeal.main_v0_scs : Memref Cert.KernelIdeal.sig Kind.scScalar Space.hbm Cert.KernelIdeal.S64x128x128 EltTy.f32)
local notation "phW" => (Memref.whole Cert.KernelIdeal.main_arg0_scs : Memref Cert.KernelIdeal.sig Kind.scScalar Space.hbm Cert.KernelIdeal.S4096 EltTy.i32)
local notation "outW" => (Memref.whole Cert.KernelIdeal.main_v1_scs : Memref Cert.KernelIdeal.sig Kind.scScalar Space.hbm Cert.KernelIdeal.S4096x128x128 EltTy.f32)
local notation "ixW" => (Memref.whole Cert.KernelIdeal.cc1_scratch0 : Memref Cert.KernelIdeal.sig Kind.scScalar Space.smem Cert.KernelIdeal.S128 EltTy.i32)
local notation "spW" => (Memref.whole Cert.KernelIdeal.cc1_scratch1 : Memref Cert.KernelIdeal.sig Kind.scScalar Space.shared Cert.KernelIdeal.S64x128x128 EltTy.f32)

/-- A TensorCore memref's buffer at `f`. -/
abbrev heldAt (d : Dev nD) {sp : Space} {S : Shape} {e : EltTy} (M : Memref sig .tc sp S e) (f : Buf (Elt F) (M.view.loc (d : Thread nD τ))) : sProp 𝕄 :=
  M.view.loc (d : Thread nD τ) ↦{fullShare} f

/-- The body from its three staging buffers: it leaves the first two as they were and the third at a value given here. -/
noncomputable def tableRun (d : Dev nD) (f0 : S64x128x128.Idx → Elt F .f32) (f1 : S64x128.Idx → Elt F .f32) :
    { W : S64x128x128.Idx → Elt F .f32 // ∀ (f2 : S64x128x128.Idx → Elt F .f32) (Q : PUnit → sProp 𝕄),
        iprop(heldAt d (stage0_0 0) f0 ∗ heldAt d (stage0_1 0) f1 ∗ heldAt d (stage0_2 0) f2
            ∗ (iprop(heldAt d (stage0_0 0) f0 ∗ heldAt d (stage0_1 0) f1 ∗ heldAt d (stage0_2 0) W) -∗ Q ⟨⟩))
          ⊢ wp frame (wpE (defs₀ (F := F)) 𝒱₀ (d : Thread nD τ) none) Set.univ
              (cc0__table_body (stage0_0 0) (hstage0_0 0) (stage0_1 0) (hstage0_1 0) (stage0_2 0) (hstage0_2 0)) Q } := by
  refine ⟨?_, fun f2 Q => ?run⟩
  case run =>
    rw [cc0__table_body_eq_skeleton]; unfold cc0__table_body_skel
    iintro ⟨H0, H1, H2, Hk⟩
    sl_exec!
    sl_step
    iapply Hk
    isplitl [H0]; · iexact H0
    isplitl [H1]; · iexact H1
    iexact H2

theorem tableRun_eq (d : Dev nD) (f0 : S64x128x128.Idx → Elt F .f32) (f1 : S64x128.Idx → Elt F .f32) :
    (tableRun d f0 f1).1 = k0_pay1 (F := F) f0 f1 := by
  unfold tableRun
  dsimp only
  unfold tableRun.sl.H2_1
  refine ((View.read_whole cc0_stg2_0 _).symm.trans
    (View.read_writes_full (View.whole cc0_stg2_0) _ inb_S64x128x128_S64x128x128_0_0_0 _ _)).trans ?_
  refine congrArg₂ (k0_pay1 (F := F)) ?_ ?_
  · exact (View.readAt_full (View.whole cc0_stg0_0) f0 inb_S64x128x128_S64x128x128_0_0_0).trans (View.read_whole cc0_stg0_0 f0)
  · exact (View.readAt_full (View.whole cc0_stg1_0) f1 inb_S64x128_S64x128_0_0).trans (View.read_whole cc0_stg1_0 f1)

variable (m : (ℓ : Loc nD τ sig) → Buf (Elt F) ℓ)

/-- No table is prefetched. -/
abbrev adm : (p : Fin 1) → (pcfgs (F := F) p).Adm := fun p => (cfgs p).toPCfg_adm

/-- The two operands' blocks as the fetches stage them. -/
abbrev stagedS (d : Dev nD) : (cfg0.win 0).block.Idx → Elt F (cfg0.win 0).elt :=
  ((cfg0.win 0).blk t0_0).view.read (Elt F) (m (sLoc d))
abbrev stagedG (d : Dev nD) : (cfg0.win 1).block.Idx → Elt F (cfg0.win 1).elt :=
  ((cfg0.win 1).blk t0_0).view.read (Elt F) (m (gLoc d))

theorem stagedS_eq (d : Dev nD) : stagedS m d = m (sLoc d) := by
  funext j
  refine congrArg (m (sLoc d)) (funext fun a => Fin.ext ?_)
  blk_simp
  rw [(show ∀ a, win0_0.index t0_0 a = 0 by decide +kernel) a]; omega
theorem stagedG_eq (d : Dev nD) : stagedG m d = m (gLoc d) := by
  funext j
  refine congrArg (m (gLoc d)) (funext fun a => Fin.ext ?_)
  blk_simp
  rw [(show ∀ a, win0_1.index t0_0 a = 0 by decide +kernel) a]; omega

/-- The region's proof data: the arrays at the launch contents; after the body the operands' buffers as fetched and
    the result's at the table; the core owing `O` throughout, its waits recorded at levels at most `b`. -/
def tableDat (O : CellTallies nD τ sig (HIx 1)) (b : ℕ) (d : Dev nD) : Dat τ (Elt F) (HIx 1) ℕ UU ℕ cfg0 d where
  A w := m ((d : Thread nD τ).loc (Pipeline.arrRef spec0 w))
  after w _ := match w with
    | ⟨0, _⟩ => stagedS m d
    | ⟨1, _⟩ => stagedG m d
    | ⟨2, _⟩ => (tableRun d (stagedS m d) (stagedG m d)).1
  Φ _ := Pipeline.scopedRest (Ix := HIx 1) (Name := ℕ) (U := UU) (Lvl := ℕ) (Val := Elt F) spec0 d
  q _ := fullShare
  owed _ := O
  recorded _ := {p | (K (F := F)).lev ((d : Thread nD τ), p.1) p.2 ≤ b}

abbrev tableDats (O : Dev nD → CellTallies nD τ sig (HIx 1)) (b : ℕ) :
    (p : Fin 1) → (d : Dev nD) → Dat τ (Elt F) (HIx 1) ℕ UU ℕ (Pipeline.pin (pcfgs (F := F)) adm p) d
  | ⟨0, _⟩ => fun d => tableDat m (O d) b d

variable (O : Dev nD → CellTallies nD τ sig (HIx 1)) (b : ℕ)

theorem before_0 (d : Dev nD) (x : (cfg0.win 0).block.Idx → Elt F (cfg0.win 0).elt) : (tableDat m (O d) b d).before 0 t0_0 x = stagedS m d := by
  unfold Dat.before; rw [if_pos (by decide)]; rfl
theorem before_1 (d : Dev nD) (x : (cfg0.win 1).block.Idx → Elt F (cfg0.win 1).elt) : (tableDat m (O d) b d).before 1 t0_0 x = stagedG m d := by
  unfold Dat.before; rw [if_pos (by decide)]; rfl

theorem tableBody (d : Dev nD) : BodyObligation (tableDat m (O d) b d) (defs₀ (F := F)) 𝒱₀ (none : HIx 1) Set.univ := fun t => by
  obtain rfl := fin_N0 t
  rw [bigSep_W0, bigSep_W0]
  simp only [owns_whole_eq]
  rw [show (tableDat m (O d) b d).Φ t0_0.succ = (tableDat m (O d) b d).Φ t0_0.castSucc from rfl,
    show (tableDat m (O d) b d).owesAt (none : HIx 1) t0_0.succ = (tableDat m (O d) b d).owesAt none t0_0.castSucc from rfl]
  iintro ⟨HΦ, Howes, ⟨%d0, %f0, %hf0, H0⟩, ⟨%d1, %f1, %hf1, H1⟩, ⟨%d2, %f2, -, H2⟩⟩
  rw [before_0] at hf0
  rw [before_1] at hf1
  subst hf0; subst hf1
  iapply ((tableRun d (stagedS m d) (stagedG m d)).2 f2 _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [tableDat]
  isplitl [H1]; · iexists _; isplitr; swap; (· iexact H1); ipureintro; dsimp only [tableDat]
  iexists _; isplitr; swap; (· iexact H2); ipureintro; dsimp only [tableDat]

/-- The result's array at the end is the table. -/
theorem table_flushed (d : Dev nD) : (tableDat m (O d) b d).arrAt 2 cfg0.N = tableOf m d := by
  refine (tableDat m (O d) b d).arrAt_eq_of_after_last 2 t0_0 (by decide +kernel) _ fun j => ?_
  have h2 : (tableDat m (O d) b d).after 2 t0_0 = k0_pay1 (F := F) (stagedS m d) (stagedG m d) := tableRun_eq d (stagedS m d) (stagedG m d)
  rw [h2, stagedS_eq, stagedG_eq]
  rfl

/-- The buffers after the region. -/
def tableMem (d : Dev nD) : (r : Ref sig .tc) → Buf (Elt F) ((d : Thread nD τ).loc r) :=
  Function.update (fun r => m ((d : Thread nD τ).loc r)) main_v0 (tableOf m d)

theorem tableMem_v0 (d : Dev nD) : tableMem m d main_v0 = tableOf m d := Function.update_self _ _ _
theorem tableMem_ne (d : Dev nD) (r : Ref sig .tc) (h : r ≠ main_v0) : tableMem m d r = m ((d : Thread nD τ).loc r) := Function.update_of_ne h _ _

set_option backward.isDefEq.respectTransparency.types false in
/-- The custom call's region. -/
def tableSeg (hO : ∀ d g, O d g none = 0) :
    Pipeline.RegionSeg (pcfgs (F := F)) adm (tableDats m O b) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (tableBody m O b c).loose
  hwaits d := Pipeline.cellsWaits_intro (Pipeline.pin (pcfgs (F := F)) adm) (tableDats m O b) (none : HIx 1) 0 d fun w s t =>
    (K (F := F)).mayWait_none _ (hO d)
  pre d := iprop(unscopedBufs d (fun r => m ((d : Thread nD τ).loc r)) ∗ ∃ W, ⌜(K (F := F)).WBelow (T d) W b⌝ ∗ owes (T d) (O d) W)
  post d := iprop(unscopedBufs d (tableMem m d) ∗ ∃ W, ⌜(K (F := F)).WBelow (T d) W b⌝ ∗ owes (T d) (O d) W)
  X _ := BI.emp
  Y _ := BI.emp
  Z d := Pipeline.unscopedRest (Ix := HIx 1) (Name := ℕ) (U := UU) (Lvl := ℕ) spec0 d (fun r => m ((d : Thread nD τ).loc r))
  hentry d := by
    rw [Pipeline.ownSems0_none]
    have hsplit := Pipeline.arrays_of_unscopedBufs (p := 0) (pcfgs (F := F)) adm (tableDats m O b) launch0.win launch0.arr_whole d
      ((tableDats m O b 0 d).share_full fun _ => rfl) (fun r => m ((d : Thread nD τ).loc r)) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin d := by
    rw [show (tableDats m O b 0 d).Φ 0 = Pipeline.scopedRest (Ix := HIx 1) (Name := ℕ) (U := UU) (Lvl := ℕ) (Val := Elt F) spec0 d from rfl]
    iintro ⟨-, -, Hr⟩; iexact Hr
  hout d := by
    rw [Pipeline.ownSems0_none, show (tableDats m O b 0 d).Φ (Fin.last _) = Pipeline.scopedRest (Ix := HIx 1) (Name := ℕ) (U := UU) (Lvl := ℕ) (Val := Elt F) spec0 d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) launch0.win launch0.arr_whole d
      (tableDats m O b) ((tableDats m O b 0 d).share_full fun _ => rfl) (fun r => m ((d : Thread nD τ).loc r)) (tableMem m d) ((tableDats m O b 0 d).arrAt · cfg0.N)
      (fun w => by
        fin_cases w
        · exact ((tableDats m O b 0 d).arrAt_in 0 rfl _).trans (tableMem_ne m d main_arg1 (by decide)).symm
        · exact ((tableDats m O b 0 d).arrAt_in 1 rfl _).trans (tableMem_ne m d main_arg2 (by decide)).symm
        · exact (table_flushed m O b d).trans (tableMem_v0 m d).symm)
      (fun r hr => tableMem_ne m d r fun h => hr (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | ⟨w, s, h⟩
      · exact h
      · rw [h]; exact Nat.zero_le _
    · iexact HO

end Cert.Proof.Gather

end
-- ==== Proof.Launch.lean ====
/-
  The launch: the arrays split between the two SparseCores and joined again, the run of @main, and what the whole
  program leaves.
-/
module

public import proofs.«01_k».proof.Proof.Table

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays between the two SparseCores -/

theorem half_ne (c c' : Fin 2) (h : c ≠ c') : Disjoint (halfSet c) (halfSet c') := by
  unfold halfSet
  rw [Finset.disjoint_biUnion_left]; intro t _
  rw [Finset.disjoint_biUnion_right]; intro t' _
  refine outSet_disjoint _ _ fun e => h (Fin.ext ?_)
  have e := congrArg Fin.val e
  simp only [rowOf] at e
  have := t.isLt; have := t'.isLt; omega

theorem mem_of_cover {ι β : Type} [Fintype ι] [Fintype β] [DecidableEq β] (s : ι → Finset β) (h : Finset.univ.biUnion s = Finset.univ) (i : β) :
    ∃ b, i ∈ s b := by
  have hi := Finset.mem_univ i
  rw [← h, Finset.mem_biUnion] at hi
  exact hi.imp fun _ h => h.2
theorem cover_of_mem {ι β : Type} [Fintype ι] [Fintype β] [DecidableEq β] (s : ι → Finset β) (h : ∀ i : β, ∃ b, i ∈ s b) :
    Finset.univ.biUnion s = Finset.univ :=
  Finset.eq_univ_of_forall fun i => Finset.mem_biUnion.mpr ((h i).imp fun _ h => ⟨Finset.mem_univ _, h⟩)
theorem mem_union {ι β : Type} [Fintype ι] [DecidableEq β] (s : ι → Finset β) (t : ι) (i : β) (h : i ∈ s t) : i ∈ Finset.univ.biUnion s :=
  Finset.mem_biUnion.mpr ⟨t, Finset.mem_univ t, h⟩

theorem half_cover : (Finset.univ : Finset (Fin 2)).biUnion (fun c : Fin 2 => halfSet c) = Finset.univ := by
  refine cover_of_mem _ fun i => ?_
  obtain ⟨b, hb⟩ := mem_of_cover outSet outSet_cover i
  have hlt := b.isLt
  obtain ⟨c, t, rfl⟩ : ∃ (c : Fin 2) (t : Fin 2048), b = rowOf c t :=
    ⟨⟨b.val / 2048, by omega⟩, ⟨b.val % 2048, by omega⟩, Fin.ext (by simp only [rowOf]; omega)⟩
  refine ⟨c, ?_⟩
  set_option maxRecDepth 20000 in
  exact mem_union (fun t => outSet (rowOf c t)) t i hb

/-- What @main's thread keeps of the two arrays that both SparseCores read. -/
def kept (d : Dev nD) : sProp 𝕄 :=
  iprop((tbLoc d ↦{Transfers.shareDrop fullShare 2} (tableOf m d)) ∗ (phLoc d ↦{Transfers.shareDrop fullShare 2} (m (phLoc d))))

/-- The table, the index words and the result, as the SparseCores' parts and what is kept. -/
theorem parts (d : Dev nD) (f : S4096x128x128.Idx → Elt F .f32) :
    iprop((tbLoc d ↦{fullShare} (tableOf m d)) ∗ (phLoc d ↦{fullShare} (m (phLoc d))) ∗ (outLoc d ↦{fullShare} f))
      ⊣⊢ iprop(kept m d ∗ bigSep Finset.univ fun c : Fin 2 => handed m d c f) := by
  have hout : (outLoc d ↦{fullShare} f : sProp 𝕄) = bigSep Finset.univ fun c : Fin 2 => outLoc d ↦[halfSet c]{fullShare} f :=
    (congrArg (fun I => (outLoc d ↦[I]{fullShare} f : sProp 𝕄)) half_cover.symm).trans
      (pointsTo_biUnion (ℓ := outLoc d) (q := fullShare) (f := f) Finset.univ (fun c : Fin 2 => halfSet c) fun c _ c' _ h => half_ne c c' h)
  have htb : (tbLoc d ↦{fullShare} (tableOf m d) : sProp 𝕄) ⊣⊢ _ := Transfers.pointsTo_toks (ℓ := tbLoc d) (S := Finset.univ) (f := tableOf m d) fullShare 2
  have hph : (phLoc d ↦{fullShare} (m (phLoc d)) : sProp 𝕄) ⊣⊢ _ := Transfers.pointsTo_toks (ℓ := phLoc d) (S := Finset.univ) (f := m (phLoc d)) fullShare 2
  rw [hout, BI.equiv_iff.mp ⟨htb.1, htb.2⟩, BI.equiv_iff.mp ⟨hph.1, hph.2⟩]
  unfold kept handed qOf
  rw [bigSep_sep', bigSep_sep']
  constructor
  · iintro ⟨⟨Ht, Hts⟩, ⟨Hp, Hps⟩, Hf⟩
    isplitl [Ht Hp]; · isplitl [Ht] <;> iassumption
    isplitl [Hts]; · iexact Hts
    isplitl [Hps] <;> iassumption
  · iintro ⟨⟨Ht, Hp⟩, Hts, Hps, Hf⟩
    isplitl [Ht Hts]; · isplitl [Ht] <;> iassumption
    isplitl [Hp Hps]; · isplitl [Hp] <;> iassumption
    iexact Hf

theorem coreOf_val (c : Fin 2) : coreOf c.val = c := Fin.ext (Nat.mod_eq_of_lt c.isLt)

theorem st_eq (d : Dev nD) : (bigSep Finset.univ fun c : Fin ((K (F := F)).nCore 0) => (P m).st 0 d c)
    = bigSep Finset.univ fun c : Fin 2 => handed m d c (m (outLoc d)) :=
  bigSep_congr fun c _ => congrArg (fun c => handed m d c (m (outLoc d))) (coreOf_val c)
theorem dn_eq (d : Dev nD) : (bigSep Finset.univ fun c : Fin ((K (F := F)).nCore 0) => (P m).dn 0 d c)
    = bigSep Finset.univ fun c : Fin 2 => handed m d c (resultOf m d) :=
  bigSep_congr fun c _ => congrArg (fun c => handed m d c (resultOf m d)) (coreOf_val c)

theorem arrays_eq (d : Dev nD) (W : (b : Ref sig .tc) → Buf (Elt F) ((d.tc : Thread nD τ).loc b)) :
    (unscopedBufs d W : sProp 𝕄) = iprop((phLoc d ↦{fullShare} W main_arg0) ∗ (sLoc d ↦{fullShare} W main_arg1) ∗ (gLoc d ↦{fullShare} W main_arg2)
      ∗ (tbLoc d ↦{fullShare} W main_v0) ∗ (outLoc d ↦{fullShare} W main_v1)) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

/-! ## The ghost state at the launch -/

theorem noneEmp {I : Type} (s : Finset I) : (bigSep s fun _ => iprop(emp)) = (iprop(emp) : sProp 𝕄) := bigSep_emp_const s

/-- Device `d`'s ghost state of the table region. -/
def ghost (d : Dev nD) : sProp 𝕄 :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P m).x q thr) := by
  unfold u₀
  iintro Hu
  ihave H := (ownU_pair (initOf (K (F := F)).hsCells (K (F := F)).hsToks) (_ : UP × Counters)) $$ Hu
  icases H with ⟨HH, HR⟩
  ihave HR' := (own_pair_emb (embR : Emb (UP × Counters) 𝕄) (_ : UP) (_ : Counters)) $$ HR
  icases HR' with ⟨HP, -⟩
  have hP := Pipeline.fund_ghost (Pipeline.pin (pcfgs (F := F)) adm) (EP (F := F)) cellOf_inj
  rw [show (EP (F := F)).toFun = ((Emb.inl : Emb UP (UP × Counters)).trans embR).toFun from rfl] at hP
  ihave HP' := hP $$ HP
  imod HP' with ⟨Hc, Ht⟩
  imodintro
  isplitl [HH]; · iexact HH
  isplitl [Hc Ht]
  · rw [show (bigSep Finset.univ fun d : Dev nD => (ghost d : sProp 𝕄)) = iprop((bigSep Finset.univ fun d : Dev nD => Pipeline.cellsGhost (Pipeline.pin (pcfgs (F := F)) adm) EP 0 d)
        ∗ bigSep Finset.univ fun d : Dev nD => Pipeline.toksInit (Pipeline.pin (pcfgs (F := F)) adm) EP 0 d) from bigSep_sep' _ _ _]
    isplitl [Hc]
    · rw [show (bigSep Finset.univ fun d : Dev nD => (Pipeline.cellsGhost (Pipeline.pin (pcfgs (F := F)) adm) EP 0 d : sProp 𝕄))
        = bigSep Finset.univ fun d : Dev nD => bigSep Finset.univ fun p : Fin 1 => Pipeline.cellsGhost (Pipeline.pin (pcfgs (F := F)) adm) EP p d from
          bigSep_congr fun d _ => (bigSep_univ_of_subsingleton (Φ := fun p : Fin 1 => Pipeline.cellsGhost (Pipeline.pin (pcfgs (F := F)) adm) EP p d) (0 : Fin 1)).symm]
      iexact Hc
    · rw [show (bigSep Finset.univ fun d : Dev nD => (Pipeline.toksInit (Pipeline.pin (pcfgs (F := F)) adm) EP 0 d : sProp 𝕄))
        = bigSep Finset.univ fun d : Dev nD => bigSep Finset.univ fun p : Fin 1 => Pipeline.toksInit (Pipeline.pin (pcfgs (F := F)) adm) EP p d from
          bigSep_congr fun d _ => (bigSep_univ_of_subsingleton (Φ := fun p : Fin 1 => Pipeline.toksInit (Pipeline.pin (pcfgs (F := F)) adm) EP p d) (0 : Fin 1)).symm]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), noneEmp]
  iempintro

/-! ## @main -/

/-- What the TensorCore owes at the launch. -/
abbrev Ot (d : Dev nD) : CellTallies nD τ sig (HIx 1) := (K (F := F)).Otc d 0
abbrev bt : ℕ := 8 * SparseCore.Cfg.Blocks.fst 1 1 0

theorem Ot_none (d : Dev nD) (g : GSem nD τ sig) : Ot (F := F) d g none = 0 := by
  by_contra h
  have := SparseCore.Cfg.lev_of_Otc_pos (K := K (F := F)) (Nat.pos_of_ne_zero h)
  rw [SparseCore.Cfg.lev_none] at this; omega

/-- What @main leaves the claim: the launch arrays as they were, the result at the gathered rows. -/
def FIN (d : Dev nD) : sProp 𝕄 :=
  iprop((phLoc d ↦{fullShare} (m (phLoc d))) ∗ (sLoc d ↦{fullShare} (m (sLoc d))) ∗ (gLoc d ↦{fullShare} (m (gLoc d))) ∗ (outLoc d ↦{fullShare} (resultOf m d)))

theorem call_eq : (Prog.lift (.customCall (SparseCore.inner (Pipeline.entry 0)) ())
      : Prog (TpuEff nD τ sig (Elt F) (SparseCore.Sig (ΛP (F := F)) 1) .tc) PUnit)
    = SparseCore.liftProg (.op (.customCall (Pipeline.entry 0) ()) fun _ => .ret ⟨⟩) := rfl

/-- What the thread needs to enter the custom call with `Q` after it. -/
def Enter (d : Dev nD) (Q : PUnit → sProp 𝕄) : sProp 𝕄 :=
  iprop((iprop(boundary (T d) ∗ (unscopedBufs d (tableMem m d) ∗ ∃ W, ⌜(K (F := F)).WBelow (T d) W bt⌝ ∗ owes (T d) (Ot (F := F) d) W)) -∗ Q ⟨⟩)
    ∗ boundary (T d) ∗ (unscopedBufs d (fun r => m ((d : Thread nD τ).loc r)) ∗ ∃ W, ⌜(K (F := F)).WBelow (T d) W bt⌝ ∗ owes (T d) (Ot (F := F) d) W)
    ∗ levAts (K (F := F)).L (K (F := F)).lev ∗ ghost d)

theorem tableRegion [∀ e, Nonempty (Elt F e)] (d : Dev nD) (Q : PUnit → sProp 𝕄) :
    Enter m d Q ⊢ wp frame (wpE (D (F := F)) 𝒱 (T d) none) Set.univ (.op (.customCall (Pipeline.entry 0) ()) fun _ => .ret ⟨⟩) Q := by
  have h := Pipeline.RegionSeg.wp (pcfgs (F := F)) adm (tableDats m (Ot (F := F)) bt) (none : HIx 1) cellOf_inj (EP (F := F)) defs₀ 𝒱₀
    (K (F := F)).L (K (F := F)).lev (tableSeg m (Ot (F := F)) bt Ot_none) d none (fun u hu => nomatch hu) (fun _ => .ret ⟨⟩) Q
  rw [show (tableSeg m (Ot (F := F)) bt Ot_none).pre d = iprop(unscopedBufs d (fun r => m ((d : Thread nD τ).loc r)) ∗ ∃ W, ⌜(K (F := F)).WBelow (T d) W bt⌝ ∗ owes (T d) (Ot (F := F) d) W) from rfl,
    show (tableSeg m (Ot (F := F)) bt Ot_none).post d = iprop(unscopedBufs d (tableMem m d) ∗ ∃ W, ⌜(K (F := F)).WBelow (T d) W bt⌝ ∗ owes (T d) (Ot (F := F) d) W) from rfl] at h
  refine BIBase.Entails.trans ?_ h
  unfold Enter ghost
  iintro ⟨Hk, Hb, Hpre, Hlev, Hg⟩
  isplitl [Hk]
  · iintro H
    rw [wp_ret]; imodintro
    iapply Hk; iexact H
  isplitl [Hb]; · iexact Hb
  isplitl [Hpre]; · iexact Hpre
  isplitl [Hlev]; · iexact Hlev
  iexact Hg

/-- The custom call that builds the table, from @main's thread. -/
theorem tableCall [∀ e, Nonempty (Elt F e)] (d : Dev nD) (Q : PUnit → sProp 𝕄) :
    Enter m d Q ⊢ wp frame (wpE ((K (F := F)).defs (D (F := F))) 𝒱 (T d) none) Set.univ
          (Prog.lift (.customCall (SparseCore.inner (Pipeline.entry 0)) ())) Q := by
  have h := (K (F := F)).wp_liftProg (D (F := F)) 𝒱 (T d) Set.univ none (.op (.customCall (Pipeline.entry 0) ()) fun _ => .ret ⟨⟩) Q
  have h' := (tableRegion m d Q).trans h
  rw [← call_eq] at h'
  exact h'

/-- Before the first call: what the TensorCore owes, and the rest of its state. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom (Q := 1) 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) : ((K (F := F)).tcSt EH d 0 : sProp 𝕄)
    = iprop((∃ W, ⌜(K (F := F)).WBelow (T d) W bt⌝ ∗ owes (T d) (Ot (F := F) d) W) ∗ tcRest d) := rfl

theorem arrays_after (d : Dev nD) :
    (unscopedBufs d (tableMem m d) : sProp 𝕄) = iprop((phLoc d ↦{fullShare} m (phLoc d)) ∗ (sLoc d ↦{fullShare} m (sLoc d)) ∗ (gLoc d ↦{fullShare} m (gLoc d))
      ∗ (tbLoc d ↦{fullShare} tableOf m d) ∗ (outLoc d ↦{fullShare} m (outLoc d))) := by
  rw [arrays_eq, tableMem_v0, tableMem_ne m d main_arg0 (by decide), tableMem_ne m d main_arg1 (by decide), tableMem_ne m d main_arg2 (by decide),
    tableMem_ne m d main_v1 (by decide)]

/-- @main on device `d`'s TensorCore: the table's custom call, then the SparseCores' call. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [tcSt_eq]
  simp only [main, wp_bind, wp_pure]
  iintro ⟨#Hctx, ⟨HO, Hrest⟩, ⟨Hb, Hbufs, Hts, -⟩, HG⟩
  ihave Hlev := (SparseCore.Cfg.ctx_levAts (K := K (F := F)) (P := P m) κ) $$ Hctx
  iapply (tableCall m d _)
  unfold Enter
  isplitl [Hrest Hts]
  · iintro ⟨Hb, Hbufs, HO⟩
    ihave Hbufs' := (BIBase.Entails.of_eq (arrays_after m d)) $$ Hbufs
    icases Hbufs' with ⟨Hph, Hs, Hg, Htb, Hout⟩
    ihave Hp := (parts m d (m (outLoc d))).1 $$ [Hph Htb Hout]
    · isplitl [Htb]; · iexact Htb
      isplitl [Hph] <;> iassumption
    icases Hp with ⟨Hkept, Hst⟩
    beta_reduce
    iapply ((K (F := F)).wp_run (D (F := F)) 𝒱 (EH := EH) (P := P m) κ d 0) $$ [HO Hrest Hst Hkept Hs Hg Hb Hts]
    isplitr; · iexact Hctx
    isplitl [HO Hrest]
    · irw [show (K (F := F)).tcSt EH d ((0 : Fin 1) : ℕ) = _ from tcSt_eq d]; isplitl [HO] <;> iassumption
    isplitl [Hst]
    · irw [st_eq]; iexact Hst
    iintro ⟨Hst, Hdn⟩
    ihave Hdn' := (BIBase.Entails.of_eq (dn_eq m d)) $$ Hdn
    ihave Hp := (parts m d (resultOf m d)).2 $$ [Hkept Hdn']
    · isplitl [Hkept] <;> iassumption
    icases Hp with ⟨Htb, Hph, Hout⟩
    imodintro
    isplitl [Hst]; · iexact Hst
    isplitr [Hb Hts]
    · unfold FIN
      isplitl [Hph]; · iexact Hph
      isplitl [Hs]; · iexact Hs
      isplitl [Hg]; · iexact Hg
      iexact Hout
    isplitl [Hb] <;> iassumption
  isplitl [Hb]; · iexact Hb
  isplitl [Hbufs HO]
  · isplitl [Hbufs]; · iexact Hbufs
    iexact HO
  isplitr; · iexact Hlev
  iexact HG

/-! ## The program's run -/

/-- What the final memory of device `d` holds. -/
def Holds (d : Dev nD) (mem : (ℓ : Loc nD τ sig) → Buf (Elt F) ℓ) : Prop :=
  mem (phLoc d) = m (phLoc d) ∧ mem (sLoc d) = m (sLoc d) ∧ mem (gLoc d) = m (gLoc d) ∧ mem (outLoc d) = resultOf m d

theorem agrees (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜Holds m d s'.mem.mem⌝ : sProp 𝕄) := by
  have h0 : iprop(FIN m d ∗ SI s') ⊢ (⌜s'.mem.mem (phLoc d) = m (phLoc d)⌝ : sProp 𝕄) := by
    refine BIBase.Entails.trans ?_ (agrees (phLoc d) _ s'); unfold FIN
    iintro ⟨⟨H, -⟩, Hs⟩; isplitl [H] <;> iassumption
  have h1 : iprop(FIN m d ∗ SI s') ⊢ (⌜s'.mem.mem (sLoc d) = m (sLoc d)⌝ : sProp 𝕄) := by
    refine BIBase.Entails.trans ?_ (agrees (sLoc d) _ s'); unfold FIN
    iintro ⟨⟨-, H, -⟩, Hs⟩; isplitl [H] <;> iassumption
  have h2 : iprop(FIN m d ∗ SI s') ⊢ (⌜s'.mem.mem (gLoc d) = m (gLoc d)⌝ : sProp 𝕄) := by
    refine BIBase.Entails.trans ?_ (agrees (gLoc d) _ s'); unfold FIN
    iintro ⟨⟨-, -, H, -⟩, Hs⟩; isplitl [H] <;> iassumption
  have h3 : iprop(FIN m d ∗ SI s') ⊢ (⌜s'.mem.mem (outLoc d) = resultOf m d⌝ : sProp 𝕄) := by
    refine BIBase.Entails.trans ?_ (agrees (outLoc d) _ s'); unfold FIN
    iintro ⟨⟨-, -, -, H⟩, Hs⟩; isplitl [H] <;> iassumption
  exact fun x hx => ⟨h0 x hx, h1 x hx, h2 x hx, h3 x hx⟩

/-- From launch arrays whose index words are all in range, every run ends with every device's result at the gathered
    rows, the launch arrays as they were, and every semaphore at zero. -/
theorem run_main [∀ e, Nonempty (Elt F e)] (hph : ∀ (d : Dev nD) (b : Fin 4096), k1_chk1 (wordAt (F := F) (m (phLoc d)) b)) :
    θ_run (Cert.KernelIdeal.defs (F := F)) (Cert.KernelIdeal.threads (F := F)) ⟨m, fun _ => 0, ρ⟩
      (fun r => (∀ d : Dev nD, Holds m d r.2.mem) ∧ r.2.sem = fun _ => 0) :=
  SparseCore.Cfg.θ_run_sc_quiescent (K := K (F := F)) (D := D (F := F)) (𝒱 := 𝒱) (EH := EH) (P := P m) (A := ∅) scFacts v₀
    (fun q _ => match q with | 0 => scalarObl m hph)
    (fun q hq => match q with | 0 => nomatch hq)
    (fun q hq => match q with | 0 => nomatch hq)
    m ρ main (fun d => ghost d) (FIN m) (u₀ (F := F)) (sep_elim_left.trans (hu₀ m)) (hmain m ρ) (fun d s' => Holds m d s'.mem.mem) (hfin m)
    (fun r => (∀ d : Dev nD, Holds m d r.2.mem) ∧ r.2.sem = fun _ => 0) (fun _ h hz => ⟨h, hz⟩)

end Cert.Proof.Gather

end
-- ==== Proof.Frames.lean ====
/-
  The index words that the precondition admits, and the two frames.
-/
module

public import proofs.«01_k».proof.Proof.Launch
public import proofs.«01_k».proof.Defs
public import proofs.«01_k».proof.Proof.Gen.Kernel
public import proofs.«01_k».proof.Proof.Gen.Pre_in_range
public import Idealize.ShloMosaic.Lib.ReduceAll
public import Idealize.ShloMosaic.Lib.WordCmp

@[expose] public section

noncomputable section

namespace Cert.Proof.Gather

open Cert.KernelIdeal Cert.KernelIdeal.Gen

open Idealize.ShloMosaic
open Idealize.SL.Sem

variable {F : FTy → Type} [FloatOps F]

/-- A word that is at least 0 and less than 64 as a signed word is a number below 64. -/
theorem word_lt (x : BitVec 32) (h : IntOp.andi (IntOp.cmpi .sge x 0#32) (IntOp.cmpi .slt x 64#32) = 1#1) : x.toNat < 64 := by
  have h0 : IntOp.cmpi .sge x 0#32 = 1#1 ∧ IntOp.cmpi .slt x 64#32 = 1#1 := by
    revert h
    generalize IntOp.cmpi .sge x 0#32 = a
    generalize IntOp.cmpi .slt x 64#32 = b
    revert a b; decide
  have h1 := IntOp.cmpi_sge.1 h0.1
  have h2 := IntOp.cmpi_slt.1 h0.2
  rw [show (0#32 : BitVec 32).toInt = 0 from rfl] at h1
  rw [show (64#32 : BitVec 32).toInt = 64 from rfl] at h2
  rw [BitVec.toInt_eq_toNat_cond] at h1 h2
  have := x.isLt
  split at h1 <;> omega

/-- The precondition on the arrays: every index word is below 64. -/
theorem words_lt (ph : S4096.Idx → Elt F .i32) (s : S64x128x128.Idx → Elt F .f32) (g : S64x128.Idx → Elt F .f32)
    (h : Cert.Pre_in_range.fn (F := F) ph s g = fun _ => 1#1) (b : Fin 4096) : (wordAt (F := F) ph b).toNat < 64 := by
  have e := congrFun h (fun a => a.elim0)
  haveI : Subsingleton Cert.Pre_in_range.S_.Idx := ⟨fun a b => funext fun x => x.elim0⟩
  exact word_lt _ (Host.reduce_andi_all _ _ _ _ _ e (fun | 0 => b))

theorem words_chk (ph : S4096.Idx → Elt F .i32) (s : S64x128x128.Idx → Elt F .f32) (g : S64x128.Idx → Elt F .f32)
    (h : Cert.Pre_in_range.fn (F := F) ph s g = fun _ => 1#1) (b : Fin 4096) : k1_chk1 (wordAt (F := F) ph b) :=
  chk_of_lt (words_lt ph s g h b)

/-- The run over any reading of the floats, with the argument arrays kept and the counters at zero. -/
theorem run_frame [∀ e, Nonempty (Elt F e)] (m : (ℓ : Loc nD τ sig) → Buf (Elt F) ℓ) (ρ : Dev nD → PrngReg)
    (hpre : ∀ c : Dev nD, Cert.Pre_in_range.fn (F := F) (m ((c.tc : Thread nD τ).loc main_arg0)) (m ((c.tc : Thread nD τ).loc main_arg1)) (m ((c.tc : Thread nD τ).loc main_arg2)) = fun _ => 1#1) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run Cert.KernelIdeal.defs _ _).mono (fun _ h => ⟨fun c => ⟨(h.1 c).1, (h.1 c).2.1, (h.1 c).2.2.1⟩, h.2⟩)
    (run_main (F := F) m ρ fun d b => words_chk _ _ _ (hpre d) b)

theorem frame_kernelIdeal : Cert.quiescent_KernelIdeal := fun m ρ hpre => run_frame (F := Ideal) m ρ hpre

/-! The program as printed and its idealization are one text: their body tables, by cases, and so their runs. -/

theorem defs₀_same : (Cert.Kernel.defs₀ (F := Bits) : Defs nD τ sig (Elt Bits) Λ₀) = Cert.KernelIdeal.defs₀ (F := Bits) := by
  funext p l a
  match p, l, a with
  | .tc, ⟨0, _⟩, _ => rfl
  | .tc, ⟨1, _⟩, _ => rfl
  | .scScalar c, ⟨0, _⟩, _ => rfl
  | .scScalar c, ⟨1, _⟩, _ => rfl
  | .scVector c i, ⟨0, _⟩, _ => rfl
  | .scVector c i, ⟨1, _⟩, _ => rfl

theorem defs_same : Cert.Kernel.defs (F := Bits) = Cert.KernelIdeal.defs (F := Bits) :=
  congrArg (fun D => sc.defs (Pipeline.defs pcfgs D)) defs₀_same

theorem frame_kernel : Cert.quiescent_Kernel := fun m ρ hpre => by
  rw [defs_same]; exact run_frame (F := Bits) m ρ hpre

end Cert.Proof.Gather

end
-- ==== Proof.Reference.lean ====
/-
  The reference's frames: it is a line of host operations that writes none of its arguments and declares no semaphore.
-/
module

public import proofs.«01_k».proof.Defs
public import proofs.«01_k».proof.Proof.Gen.ReferenceIdeal
public import proofs.«01_k».proof.Proof.Gen.ReferenceIdeal.Run
public import proofs.«01_k».proof.Proof.Gen.Pre_in_range
public import Idealize.ShloMosaic.Lib.Quiescent

@[expose] public section

noncomputable section

namespace Cert.Proof.Gather

open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition too. -/
theorem frame_reference_in_range : Cert.quiescent_ReferenceIdeal_pre_in_range := fun m ρ _ => frame_reference m ρ trivial

end Cert.Proof.Gather

end
-- ==== Proof.Ref.lean ====
/-
  The reference's two tables and its test of the index words, by name: the masked and normalised slabs, the softplus
  gates scaled to sum to 128, the wrapped index and whether it lies in range.
-/
module

public import proofs.«01_k».proof.Defs
public import proofs.«01_k».proof.Proof.Gen.ReferenceIdeal
public import proofs.«01_k».proof.Proof.Gen.ReferenceIdeal.Run

@[expose] public section

noncomputable section

namespace Cert.Proof.Gather.Ref

open Cert.ReferenceIdeal Cert.ReferenceIdeal.Facts₀
open Idealize.ShloMosaic

/-- The slabs with their diagonals cleared. -/
def masked (s : FVec Ideal S64x128x128 .f32) : FVec Ideal S64x128x128 .f32 :=
  mulf s (broadcastInDim S64x128x128 ![0, 1, 2] bcast_S1x128x128_S64x128x128_0_1_2 (broadcastInDim S1x128x128 ![1, 2] bcast_S128x128_S1x128x128_1_2 (subf (broadcastInDim S128x128 ![] bcast_S_S128x128 (constant S_ .f32 0x3F800000#32)) (uitofp .f32 (cmpi .eq (addi (iotaInDim S128x128 32 0) (broadcastInDim S128x128 ![] bcast_S_S128x128 (constantI S_ 32 0#32))) (iotaInDim S128x128 32 1))))))

/-- Each row of a masked slab over the sum of its absolute values. -/
def slabs (s : FVec Ideal S64x128x128 .f32) : FVec Ideal S64x128x128 .f32 :=
  Host.divf (masked s) (broadcastInDim S64x128x128 ![0, 1, 2] bcast_S64x128x1_S64x128x128_0_1_2 (maximumf (broadcastInDim S64x128x1 ![0, 1] bcast_S64x128_S64x128x1_0_1 (Host.reduceAdd (Host.absf (masked s)) (constant S_ .f32 0x00000000#32) reducesTo_S64x128x128_S64x128_d2 h_S_)) (broadcastInDim S64x128x1 ![] bcast_S_S64x128x1 (constant S_ .f32 0x358637BD#32))))

/-- The softplus of the gate logits, and a little more. -/
def soft (g : FVec Ideal S64x128 .f32) : FVec Ideal S64x128 .f32 :=
  addf (select (cmpf .une (subf g (broadcastInDim S64x128 ![] bcast_S_S64x128 (constant S_ .f32 0x00000000#32))) (subf g (broadcastInDim S64x128 ![] bcast_S_S64x128 (constant S_ .f32 0x00000000#32)))) (addf g (broadcastInDim S64x128 ![] bcast_S_S64x128 (constant S_ .f32 0x00000000#32))) (addf (maximumf g (broadcastInDim S64x128 ![] bcast_S_S64x128 (constant S_ .f32 0x00000000#32))) (Host.log1p (Host.exp (Host.negf (Host.absf (subf g (broadcastInDim S64x128 ![] bcast_S_S64x128 (constant S_ .f32 0x00000000#32))))))))) (broadcastInDim S64x128 ![] bcast_S_S64x128 (constant S_ .f32 0x358637BD#32))

/-- The gates: each phase's softplus scaled to sum to 128. -/
def gates (g : FVec Ideal S64x128 .f32) : FVec Ideal S64x128 .f32 :=
  mulf (soft g) (broadcastInDim S64x128 ![0, 1] bcast_S64x1_S64x128_0_1 (Host.divf (broadcastInDim S64x1 ![] bcast_S_S64x1 (constant S_ .f32 0x43000000#32)) (maximumf (broadcastInDim S64x1 ![0] bcast_S64_S64x1_0 (Host.reduceAdd (soft g) (constant S_ .f32 0x00000000#32) reducesTo_S64x128_S64_d1 h_S_)) (broadcastInDim S64x1 ![] bcast_S_S64x1 (constant S_ .f32 0x358637BD#32)))))

/-- The index words as a column, a negative one counted from the end. -/
def index (ph : IVec S4096 32) : IVec S4096x1 32 :=
  broadcastInDim S4096x1 ![0] bcast_S4096_S4096x1_0 (select (cmpi .slt ph (broadcastInDim S4096 ![] bcast_S_S4096 (constantI S_ 32 0#32))) (addi ph (broadcastInDim S4096 ![] bcast_S_S4096 (constantI S_ 32 64#32))) ph)

/-- Whether each index names a row. -/
def inRange (ph : IVec S4096 32) : IVec S4096 1 :=
  Host.reduce IntOp.andi (andi (cmpi .sge (index ph) (broadcastInDim S4096x1 ![] bcast_S_S4096x1 (constantI S_ 32 0#32))) (cmpi .sle (index ph) (broadcastInDim S4096x1 ![0, 1] bcast_S1x1_S4096x1_0_1 (broadcastInDim S1x1 ![1] bcast_S1_S1x1_1 (constantI S1 32 63#32))))) (constantI S_ 1 1#1) reducesTo_S4096x1_S4096_d1 h_S_

/-- The result: the indexed slabs times the indexed gates. -/
def result (ph : IVec S4096 32) (s : FVec Ideal S64x128x128 .f32) (g : FVec Ideal S64x128 .f32) : FVec Ideal S4096x128x128 .f32 :=
  mulf (select (broadcastInDim S4096x128x128 ![0] bcast_S4096_S4096x128x128_0 (inRange ph)) (Host.gather gather_S64x128x128_S4096x1_S4096x128x128_12_0_n_n_0_1_1128128 (slabs s) (index ph)) (broadcastInDim S4096x128x128 ![] bcast_S_S4096x128x128 (constant S_ .f32 0x7FC00000#32)))
    (broadcastInDim S4096x128x128 ![0, 1, 2] bcast_S4096x128x1_S4096x128x128_0_1_2 (broadcastInDim S4096x128x1 ![0, 1] bcast_S4096x128_S4096x128x1_0_1 (select (broadcastInDim S4096x128 ![0] bcast_S4096_S4096x128_0 (inRange ph)) (Host.gather gather_S64x128_S4096x1_S4096x128_1_0_n_n_0_1_1128 (gates g) (index ph)) (broadcastInDim S4096x128 ![] bcast_S_S4096x128 (constant S_ .f32 0x7FC00000#32)))))

/-- The reference's run ends at this value. -/
theorem run_value (m : (ℓ : Loc nD τ sig) → Buf (Elt Ideal) ℓ) (c : Dev nD) :
    Value.res_main_v33 (F := Ideal) m c = result (m ((c.tc : Thread nD τ).loc main_arg0)) (m ((c.tc : Thread nD τ).loc main_arg1)) (m ((c.tc : Thread nD τ).loc main_arg2)) := rfl

end Cert.Proof.Gather.Ref

end
-- ==== Proof.Take.lean ====
/-
  Words that name rows: the reference's wrapped index is the word itself, its range test is passed, and its gathers of
  slabs and of gate rows read the row the word names.
-/
module

public import proofs.«01_k».proof.Proof.Ref
public import Idealize.ShloMosaic.Lib.ReduceAll
public import Idealize.ShloMosaic.Lib.WordCmp
public import Idealize.ShloMosaic.Lib.Pointwise

@[expose] public section

noncomputable section

namespace Cert.Proof.Gather.Ref

open Cert.ReferenceIdeal Cert.ReferenceIdeal.Facts₀
open Idealize.ShloMosaic

/-- A small word is not negative. -/
theorem small_toInt {x : BitVec 32} (h : x.toNat < 64) : x.toInt = x.toNat := by
  rw [BitVec.toInt_eq_toNat_of_lt (by omega)]

/-- A word that names a row is not wrapped. -/
theorem wrap_small {x : BitVec 32} (h : x.toNat < 64) : IntOp.cmpi .slt x 0#32 = 0#1 := by
  have : ¬ x.toInt < (0#32 : BitVec 32).toInt := by rw [small_toInt h]; simp
  show BitVec.ofBool (decide (x.toInt < (0#32 : BitVec 32).toInt)) = 0#1
  rw [decide_eq_false this]; rfl

/-- It is at least zero. -/
theorem ge_small {x : BitVec 32} (h : x.toNat < 64) : IntOp.cmpi .sge x 0#32 = 1#1 := by
  have : (0#32 : BitVec 32).toInt ≤ x.toInt := by rw [small_toInt h]; simp
  show BitVec.ofBool (decide ((0#32 : BitVec 32).toInt ≤ x.toInt)) = 1#1
  rw [decide_eq_true this]; rfl

/-- It is at most the last row. -/
theorem le_small {x : BitVec 32} (h : x.toNat < 64) : IntOp.cmpi .sle x 63#32 = 1#1 := by
  have : x.toInt ≤ (63#32 : BitVec 32).toInt := by rw [small_toInt h, show (63#32 : BitVec 32).toInt = 63 by decide]; omega
  show BitVec.ofBool (decide (x.toInt ≤ (63#32 : BitVec 32).toInt)) = 1#1
  rw [decide_eq_true this]; rfl

variable {ph : IVec S4096 32}

/-- The column of indices holds the words. -/
theorem index_small (b : Fin 4096) (z : Fin 1) (h : (ph (ix1 b)).toNat < 64) : index ph (ix2 b z) = ph (ix1 b) := by
  have e : index ph (ix2 b z) = Scalar.select (IntOp.cmpi .slt (ph (ix1 b)) 0#32) (IntOp.addi (ph (ix1 b)) 64#32) (ph (ix1 b)) := by
    pointwise [index]
  rw [e, wrap_small h]; rfl

/-- The range test is passed at every row. -/
theorem inRange_small (h : ∀ b : Fin 4096, (ph (ix1 b)).toNat < 64) (b : S4096.Idx) : inRange ph b = 1#1 := by
  unfold inRange
  refine Host.reduce_andi_one _ _ _ _ _ rfl fun i => ?_
  have hi : i = ix2 (i 0 : Fin 4096) (i 1 : Fin 1) := by funext a; match a with | ⟨0, _⟩ => rfl | ⟨1, _⟩ => rfl
  rw [hi]
  generalize (i 0 : Fin 4096) = b
  generalize (i 1 : Fin 1) = z
  have e : index ph (ix2 b z) = ph (ix1 b) := index_small b z (h b)
  show IntOp.andi (IntOp.cmpi .sge (index ph (ix2 b z)) 0#32) (IntOp.cmpi .sle (index ph (ix2 b z)) 63#32) = 1#1
  rw [e, ge_small (h b), le_small (h b)]
  rfl

/-- Where the row axis of a gather reads, for an index in range. -/
theorem row_small {x : BitVec 32} (h : x.toNat < 64) : min x.toInt.toNat (64 - 1) = x.toNat % 64 := by
  rw [small_toInt h, Int.toNat_natCast, Nat.mod_eq_of_lt h]; omega

/-- A gather of slabs reads the slab the index names. -/
theorem slab_take {α : Type} (x : S64x128x128.Idx → α) (idx : IVec S4096x1 32) (b : Fin 4096) (i j : Fin 128) (h : (idx (ix2 b 0)).toNat < 64) :
    Host.gather gather_S64x128x128_S4096x1_S4096x128x128_12_0_n_n_0_1_1128128 x idx (ix3 b i j)
      = x (ix3 (⟨(idx (ix2 b 0)).toNat % 64, Nat.mod_lt _ (by decide)⟩ : Fin 64) i j) := by
  unfold Host.gather
  refine congrArg x (funext fun a => Fin.ext ?_)
  match a with
  | ⟨0, _⟩ =>
    refine Eq.trans ?_ (row_small h)
    show min (idx (GatherDims.siIdx gather_S64x128x128_S4096x1_S4096x128x128_12_0_n_n_0_1_1128128 (ix3 b i j) ⟨0, by decide⟩)).toInt.toNat (64 - 1) + 0 + 0 = _
    have : GatherDims.siIdx gather_S64x128x128_S4096x1_S4096x128x128_12_0_n_n_0_1_1128128 (ix3 b i j) ⟨0, by decide⟩ = ix2 b 0 := by
      funext a; match a with | ⟨0, _⟩ => rfl | ⟨1, _⟩ => rfl
    rw [this]; rfl
  | ⟨1, _⟩ => exact (Nat.zero_add _).trans rfl
  | ⟨2, _⟩ => exact (Nat.zero_add _).trans rfl

/-- A gather of gate rows reads the row the index names. -/
theorem gate_take {α : Type} (x : S64x128.Idx → α) (idx : IVec S4096x1 32) (b : Fin 4096) (i : Fin 128) (h : (idx (ix2 b 0)).toNat < 64) :
    Host.gather gather_S64x128_S4096x1_S4096x128_1_0_n_n_0_1_1128 x idx (ix2 b i)
      = x (ix2 (⟨(idx (ix2 b 0)).toNat % 64, Nat.mod_lt _ (by decide)⟩ : Fin 64) i) := by
  unfold Host.gather
  refine congrArg x (funext fun a => Fin.ext ?_)
  match a with
  | ⟨0, _⟩ =>
    refine Eq.trans ?_ (row_small h)
    show min (idx (GatherDims.siIdx gather_S64x128_S4096x1_S4096x128_1_0_n_n_0_1_1128 (ix2 b i) ⟨0, by decide⟩)).toInt.toNat (64 - 1) + 0 + 0 = _
    have : GatherDims.siIdx gather_S64x128_S4096x1_S4096x128_1_0_n_n_0_1_1128 (ix2 b i) ⟨0, by decide⟩ = ix2 b 0 := by
      funext a; match a with | ⟨0, _⟩ => rfl | ⟨1, _⟩ => rfl
    rw [this]; rfl
  | ⟨1, _⟩ => exact (Nat.zero_add _).trans rfl

end Cert.Proof.Gather.Ref

end
-- ==== Proof.TableValue.lean ====
/-
  The two tables agree over the extended reals: the table the TensorCore writes is, entry by entry, the reference's
  normalised slab times its gate.
-/
module

public import proofs.«01_k».proof.Proof.Ref
public import proofs.«01_k».proof.Proof.Gen.KernelIdeal
public import proofs.«01_k».proof.Proof.Gen.KernelIdeal.Skeleton
public import Idealize.ShloMosaic.Lib.Pointwise

@[expose] public section

noncomputable section

namespace Cert.Proof.Gather.Ref

open Cert.ReferenceIdeal Cert.ReferenceIdeal.Facts₀
open Idealize.ShloMosaic

/-- One less the bit of an equality, read as a number, is the bit of the inequality. -/
theorem off_diagonal (a b : BitVec 32) :
    (1 : EReal) - FloatOps.uitofp (F := Ideal) .f32 (IntOp.cmpi .eq (IntOp.addi a 0#32) b)
      = FloatOps.sitofp (F := Ideal) .f32 (BitVec.setWidth 32 (IntOp.cmpi .ne a b)) := by
  have h0 : IntOp.addi a 0#32 = a := BitVec.add_zero a
  rw [h0]
  by_cases h : a = b
  · have e : IntOp.cmpi .eq a b = 1#1 := by simp [IntOp.cmpi, h]
    have n : IntOp.cmpi .ne a b = 0#1 := by simp [IntOp.cmpi, h]
    rw [e, n]
    show (1 : EReal) - (((1#1 : BitVec 1).toNat : ℝ) : EReal) = (((BitVec.setWidth 32 (0#1 : BitVec 1)).toInt : ℝ) : EReal)
    rw [show (1#1 : BitVec 1).toNat = 1 by decide, show (BitVec.setWidth 32 (0#1 : BitVec 1)).toInt = 0 by decide,
      show (1 : EReal) = ((1 : ℝ) : EReal) from rfl, ← EReal.coe_sub]
    norm_num
  · have e : IntOp.cmpi .eq a b = 0#1 := by simp [IntOp.cmpi, h, beq_eq_false_iff_ne.2 h]
    have n : IntOp.cmpi .ne a b = 1#1 := by simp [IntOp.cmpi, h, bne_iff_ne.2 h]
    rw [e, n]
    show (1 : EReal) - (((0#1 : BitVec 1).toNat : ℝ) : EReal) = (((BitVec.setWidth 32 (1#1 : BitVec 1)).toInt : ℝ) : EReal)
    rw [show (0#1 : BitVec 1).toNat = 0 by decide, show (BitVec.setWidth 32 (1#1 : BitVec 1)).toInt = 1 by decide,
      show (1 : EReal) = ((1 : ℝ) : EReal) from rfl, ← EReal.coe_sub]
    norm_num

/-- An entry of the written table is the reference's slab entry times its gate. -/
theorem table_eq (s : FVec Ideal S64x128x128 .f32) (g : FVec Ideal S64x128 .f32) (w : Fin 64) (i j : Fin 128) :
    slabs s (ix3 w i j) * gates g (ix2 w i) = Cert.KernelIdeal.Gen.k0_pay1 (F := Ideal) s g (ix3 w i j) := by
  pointwise [slabs, gates, soft, masked, Cert.KernelIdeal.Gen.k0_pay1, off_diagonal, zero_sub]
  simp only [ne_eq, not_true_eq_false, if_false]

end Cert.Proof.Gather.Ref

end
-- ==== Proof.Value.lean ====
/-
  The value claim: over the extended reals, with every index word below 64, the kernel's result is the reference's.
-/
module

public import proofs.«01_k».proof.Proof.Frames
public import proofs.«01_k».proof.Proof.Take
public import proofs.«01_k».proof.Proof.TableValue

@[expose] public section

noncomputable section

namespace Cert.Proof.Gather

open Idealize.ShloMosaic
open Idealize.SL.Sem

namespace Ref

open Cert.ReferenceIdeal Cert.ReferenceIdeal.Facts₀

/-- With every word in range the reference's result is the indexed slab entry times the indexed gate. -/
theorem result_apply {ph : IVec S4096 32} (h : ∀ b : Fin 4096, (ph (ix1 b)).toNat < 64) (s : FVec Ideal S64x128x128 .f32) (g : FVec Ideal S64x128 .f32)
    (b : Fin 4096) (i j : Fin 128) :
    result ph s g (ix3 b i j) = slabs s (ix3 (⟨(ph (ix1 b)).toNat % 64, Nat.mod_lt _ (by decide)⟩ : Fin 64) i j)
      * gates g (ix2 (⟨(ph (ix1 b)).toNat % 64, Nat.mod_lt _ (by decide)⟩ : Fin 64) i) := by
  have hw : index ph (ix2 b 0) = ph (ix1 b) := index_small b 0 (h b)
  have hl := slab_take (slabs s) (index ph) b i j (by rw [hw]; exact h b)
  have hg := gate_take (gates g) (index ph) b i (by rw [hw]; exact h b)
  have hr : inRange ph = fun _ => 1#1 := funext (inRange_small h)
  simp only [hw] at hl hg
  rw [← hl, ← hg]
  unfold result
  rw [hr]
  generalize Host.gather gather_S64x128x128_S4096x1_S4096x128x128_12_0_n_n_0_1_1128128 (slabs s) (index ph) = A
  generalize Host.gather gather_S64x128_S4096x1_S4096x128_1_0_n_n_0_1_1128 (gates g) (index ph) = B
  pointwise

end Ref

open Cert.KernelIdeal Cert.KernelIdeal.Gen in
/-- With every word in range the two results are one array. -/
theorem result_eq (ph : IVec S4096 32) (s : FVec Ideal S64x128x128 .f32) (g : FVec Ideal S64x128 .f32)
    (h : ∀ b : Fin 4096, (wordAt (F := Ideal) ph b).toNat < 64) :
    Ref.result ph s g = gathered (F := Ideal) (k0_pay1 (F := Ideal) s g) ph := by
  have hw : ∀ b : Fin 4096, ph (ix1 b) = wordAt (F := Ideal) ph b := fun b => congrArg ph (by funext a; match a with | ⟨0, _⟩ => rfl)
  funext k
  obtain ⟨b, i, j, rfl⟩ : ∃ (b : Fin 4096) (i j : Fin 128), k = ix3 b i j :=
    ⟨k 0, k 1, k 2, by funext a; match a with | ⟨0, _⟩ => rfl | ⟨1, _⟩ => rfl | ⟨2, _⟩ => rfl⟩
  refine (Ref.result_apply (fun b => by rw [hw]; exact h b) s g b i j).trans ((Ref.table_eq s g _ i j).trans ?_)
  unfold gathered
  refine congrArg (k0_pay1 (F := Ideal) s g) ?_
  funext a
  match a with
  | ⟨0, _⟩ => exact Fin.ext (congrArg (fun x : BitVec 32 => x.toNat % 64) (hw b))
  | ⟨1, _⟩ => rfl
  | ⟨2, _⟩ => rfl

/-- Both run, from arguments that agree, to one result. -/
theorem algebraic : Cert.algebraic_KernelIdeal_ReferenceIdeal := fun m ρ m' ρ' hpre hargs =>
  ⟨fun c => resultOf (F := Ideal) m c,
    (θ_run Cert.KernelIdeal.defs _ _).mono (fun _ h c => ⟨(h.1 c).2.2.2, (h.1 c).1, (h.1 c).2.1, (h.1 c).2.2.1⟩)
      (run_main (F := Ideal) m ρ fun d b => words_chk _ _ _ (hpre d) b),
    (θ_run Cert.ReferenceIdeal.defs _ _).mono (fun _ h c => ⟨(h c).1.trans (by
        rw [Ref.run_value, (hargs c).1, (hargs c).2.1, (hargs c).2.2]
        exact result_eq _ _ _ fun b => words_lt _ _ _ (hpre c) b), (h c).2⟩)
      (Cert.ReferenceIdeal.Value.run (F := Ideal) m' ρ')⟩

end Cert.Proof.Gather

end
-- ==== Proof.lean ====
module

public import proofs.«01_k».proof.Defs
public import proofs.«01_k».proof.Proof.Frames
public import proofs.«01_k».proof.Proof.Reference
public import proofs.«01_k».proof.Proof.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_range.Gen.facts,
    Gather.frame_kernel, Gather.frame_kernelIdeal, Gather.frame_reference,
    Gather.frame_reference_in_range, trivial, Gather.algebraic⟩

end Cert.Proof

end
